-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_table_KernelIdeal [hPre_ids_in_table_KernelIdeal : Cert.Pre_ids_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table_ReferenceIdeal [hPre_ids_in_table_ReferenceIdeal : Cert.Pre_ids_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_table_KernelIdeal [hKernelIdeal : Cert.KernelIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_table_ReferenceIdeal [hReferenceIdeal : Cert.ReferenceIdeal.Facts] [hPre_ids_in_table_ReferenceIdeal : Cert.Pre_ids_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_table_KernelIdeal [hKernelIdeal : Cert.KernelIdeal.Facts] [hReferenceIdeal : Cert.ReferenceIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![8192, 512]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_table_KernelIdeal : Cert.Pre_ids_in_table_KernelIdeal.Facts) (hPre_ids_in_table_ReferenceIdeal : Cert.Pre_ids_in_table_ReferenceIdeal.Facts),
    quiescent_Kernel (hKernel := hKernel)
    ∧ quiescent_KernelIdeal (hKernelIdeal := hKernelIdeal)
    ∧ quiescent_KernelIdeal_pre_ids_in_table_KernelIdeal (hKernelIdeal := hKernelIdeal) (hPre_ids_in_table_KernelIdeal := hPre_ids_in_table_KernelIdeal)
    ∧ quiescent_ReferenceIdeal (hReferenceIdeal := hReferenceIdeal)
    ∧ quiescent_ReferenceIdeal_pre_ids_in_table_ReferenceIdeal (hReferenceIdeal := hReferenceIdeal) (hPre_ids_in_table_ReferenceIdeal := hPre_ids_in_table_ReferenceIdeal)
    ∧ preserves_Kernel_KernelIdeal
    ∧ algebraic_KernelIdeal_ReferenceIdeal_pre_ids_in_table_KernelIdeal (hKernelIdeal := hKernelIdeal) (hReferenceIdeal := hReferenceIdeal) (hPre_ids_in_table_KernelIdeal := hPre_ids_in_table_KernelIdeal)
-- ==== Pre_ids_in_table_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S4096x512 .f32) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  main_v4
-- ==== Pre_ids_in_table_ReferenceIdeal.lean ====
abbrev S512 : Shape := ⟨1, ![512]⟩
abbrev S8192x512 : Shape := ⟨2, ![8192, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S8192x512 .f32) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  main_v4
-- ==== Kernel.lean ====
abbrev S512 : Shape := ⟨1, ![512]⟩
abbrev S4096x512 : Shape := ⟨2, ![4096, 512]⟩
abbrev S_ : Shape := ⟨0, ![]⟩
abbrev S512x1 : Shape := ⟨2, ![512, 1]⟩
abbrev S1 : Shape := ⟨1, ![1]⟩
abbrev S1x1 : Shape := ⟨2, ![1, 1]⟩
abbrev S512x512 : Shape := ⟨2, ![512, 512]⟩
abbrev S8 : Shape := ⟨1, ![8]⟩
abbrev S64x512 : Shape := ⟨2, ![64, 512]⟩

abbrev nBuf : Space → Nat
  | .hbm => 54
  | .vmem => 3
  | .smem => 0
  | _ => 0

abbrev bufTy : (tb : Table) → Fin (tcTables nBuf tb) → BufTy
  | .hbm, ⟨0, _⟩ => ⟨S512, .i32⟩
  | .hbm, ⟨1, _⟩ => ⟨S4096x512, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i1⟩
  | .hbm, ⟨19, _⟩ => ⟨S_, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512x1, .i1⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S1, .i32⟩
  | .hbm, ⟨33, _⟩ => ⟨S_, .i32⟩
  | .hbm, ⟨34, _⟩ => ⟨S512x1, .i32⟩
  | .hbm, ⟨35, _⟩ => ⟨S512x1, .i1⟩
  | .hbm, ⟨36, _⟩ => ⟨S1x1, .i32⟩
  | .hbm, ⟨37, _⟩ => ⟨S512x1, .i32⟩
  | .hbm, ⟨38, _⟩ => ⟨S512x1, .i1⟩
  | .hbm, ⟨39, _⟩ => ⟨S512x1, .i1⟩
  | .hbm, ⟨40, _⟩ => ⟨S_, .i1⟩
  | .hbm, ⟨41, _⟩ => ⟨S512, .i1⟩
  | .hbm, ⟨42, _⟩ => ⟨S512x512, .f32⟩
  | .hbm, ⟨43, _⟩ => ⟨S512x512, .i1⟩
  | .hbm, ⟨44, _⟩ => ⟨S_, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S_, .f32⟩
  | .hbm, ⟨49, _⟩ => ⟨S512x512, .i1⟩
  | .hbm, ⟨50, _⟩ => ⟨S512x512, .f32⟩
  | .hbm, ⟨51, _⟩ => ⟨S512x512, .f32⟩
  | .hbm, ⟨52, _⟩ => ⟨S512x512, .bf16⟩
  | .hbm, ⟨53, _⟩ => ⟨S512x512, .f32⟩
  | .local _ .vmem, ⟨0, _⟩ => ⟨S512x512, .bf16⟩
  | .local _ .vmem, ⟨1, _⟩ => ⟨S512x512, .f32⟩
  | .local _ .vmem, ⟨2, _⟩ => ⟨S512x512, .bf16⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev main_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_11 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_10 : BitVec 32 := 16#32
  let v17 : BitVec 32 := Scalar.muli v9 c16_i32_10
  let v18 : BitVec 32 := Scalar.addi c0_i32_11 v17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v19 : BitVec 32 := Scalar.muli v5 c4_i32_12
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v21 : BitVec 32 := Scalar.muli v8 c1_i32_13
  let v22 : BitVec 32 := Scalar.addi v20 v21
  v22.toNat
def k0_dev3 (d0 : Dev nD) : Nat :=
  let c0_i32_21 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_20 : BitVec 32 := 16#32
  let v29 : BitVec 32 := Scalar.muli v9 c16_i32_20
  let v30 : BitVec 32 := Scalar.addi c0_i32_21 v29
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_22 : BitVec 32 := 4#32
  let v31 : BitVec 32 := Scalar.muli v5 c4_i32_22
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v33 : BitVec 32 := Scalar.muli v8 c1_i32_23
  let v34 : BitVec 32 := Scalar.addi v32 v33
  v34.toNat
def k0_dev4 (d0 : Dev nD) : Nat :=
  let c0_i32_30 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_29 : BitVec 32 := 16#32
  let v41 : BitVec 32 := Scalar.muli v9 c16_i32_29
  let v42 : BitVec 32 := Scalar.addi c0_i32_30 v41
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v43 : BitVec 32 := Scalar.muli v5 c4_i32_31
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v45 : BitVec 32 := Scalar.muli v8 c1_i32_32
  let v46 : BitVec 32 := Scalar.addi v44 v45
  v46.toNat
def k0_dev5 (d0 : Dev nD) : Nat :=
  let c0_i32_38 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_37 : BitVec 32 := 16#32
  let v53 : BitVec 32 := Scalar.muli v9 c16_i32_37
  let v54 : BitVec 32 := Scalar.addi c0_i32_38 v53
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_39 : BitVec 32 := 4#32
  let v55 : BitVec 32 := Scalar.muli v5 c4_i32_39
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v57 : BitVec 32 := Scalar.muli v8 c1_i32_40
  let v58 : BitVec 32 := Scalar.addi v56 v57
  v58.toNat
def k0_dev6 (d0 : Dev nD) : Nat :=
  let c0_i32_47 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_46 : BitVec 32 := 16#32
  let v65 : BitVec 32 := Scalar.muli v9 c16_i32_46
  let v66 : BitVec 32 := Scalar.addi c0_i32_47 v65
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_48 : BitVec 32 := 4#32
  let v67 : BitVec 32 := Scalar.muli v5 c4_i32_48
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v69 : BitVec 32 := Scalar.muli v8 c1_i32_49
  let v70 : BitVec 32 := Scalar.addi v68 v69
  v70.toNat
def k0_dev7 (d0 : Dev nD) : Nat :=
  let c0_i32_55 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_54 : BitVec 32 := 16#32
  let v77 : BitVec 32 := Scalar.muli v9 c16_i32_54
  let v78 : BitVec 32 := Scalar.addi c0_i32_55 v77
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_56 : BitVec 32 := 4#32
  let v79 : BitVec 32 := Scalar.muli v5 c4_i32_56
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v81 : BitVec 32 := Scalar.muli v8 c1_i32_57
  let v82 : BitVec 32 := Scalar.addi v80 v81
  v82.toNat
def k0_dev8 (d0 : Dev nD) : Nat :=
  let c0_i32_63 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_62 : BitVec 32 := 16#32
  let v89 : BitVec 32 := Scalar.muli v9 c16_i32_62
  let v90 : BitVec 32 := Scalar.addi c0_i32_63 v89
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_64 : BitVec 32 := 4#32
  let v91 : BitVec 32 := Scalar.muli v5 c4_i32_64
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v93 : BitVec 32 := Scalar.muli v8 c1_i32_65
  let v94 : BitVec 32 := Scalar.addi v92 v93
  v94.toNat
def k0_dev9 (d0 : Dev nD) : Nat :=
  let c0_i32_71 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_70 : BitVec 32 := 16#32
  let v101 : BitVec 32 := Scalar.muli v9 c16_i32_70
  let v102 : BitVec 32 := Scalar.addi c0_i32_71 v101
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_72 : BitVec 32 := 4#32
  let v103 : BitVec 32 := Scalar.muli v5 c4_i32_72
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v105 : BitVec 32 := Scalar.muli v8 c1_i32_73
  let v106 : BitVec 32 := Scalar.addi v104 v105
  v106.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512 : Shape := ⟨1, ![512]⟩
abbrev S8192x512 : Shape := ⟨2, ![8192, 512]⟩
abbrev S_ : Shape := ⟨0, ![]⟩
abbrev S512x1 : Shape := ⟨2, ![512, 1]⟩
abbrev S512x512 : Shape := ⟨2, ![512, 512]⟩

abbrev nBuf : Space → Nat
  | .hbm => 11
  | .vmem => 0
  | .smem => 0
  | _ => 0

abbrev bufTy : (tb : Table) → Fin (tcTables nBuf tb) → BufTy
  | .hbm, ⟨0, _⟩ => ⟨S512, .i32⟩
  | .hbm, ⟨1, _⟩ => ⟨S8192x512, .f32⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Steps.lean ====
/-
  The kernel body as a loop. The printed body spells its eight chunks of 64 rows out one after the other; here each
  kind of step is written once, over the chunk's number, and the printed body is shown to be those steps run over the
  list of chunks: every copy to the partner, then every combination, then every drain.
-/
module

public import proofs.«01_k».proof.Proof.Gen.KernelIdeal.Skeleton
public import proofs.«01_k».proof.Proof.Gen.KernelIdeal.Points

@[expose] public section

noncomputable section

namespace Cert.Exchange

open Idealize.ShloMosaic Idealize.ShloMosaic.TcCoe
open Idealize.SL Idealize.SL.Sem
open Cert.KernelIdeal Cert.KernelIdeal.Gen

variable {F : FTy → Type} [FloatOps F]

/-! ## The partner -/

/-- The device in the other half of the mesh's first axis at the same place on the other two. -/
def pr (c : Dev nD) : Dev nD := ⟨(c.val + 16) % 32, Nat.mod_lt _ (by decide)⟩

/-- The partner's partner is the device. -/
theorem pr_pr (c : Dev nD) : pr (pr c) = c := by revert c; decide
/-- No device is its own partner. -/
theorem pr_ne (c : Dev nD) : pr c ≠ c := by revert c; decide

/-- The pairing of the devices. -/
def pairing : Dev nD ≃ Dev nD := ⟨pr, pr, pr_pr, pr_pr⟩

/-! ## The chunks -/

/-- A chunk's rows lie in the array. -/
theorem row_inb : ∀ (i : Fin 8) (a : Fin 2), (![64 * i.val, 0] : Fin 2 → Nat) a + S64x512.size a ≤ S512x512.size a := by decide

/-- The rows of chunk `i`. -/
abbrev rows (i : Fin 8) : Rect S512x512 := Rect.unit (s := S512x512) ![64 * i.val, 0] S64x512.size (row_inb i)

/-- A chunk's rows fill whole words, so that it can be sent. -/
theorem rows_words : ∀ i : Fin 8, (rows i).WholeWords (EltTy.packing .bf16) := by decide

/-- The chunks in the order the body takes them. -/
abbrev chunks : List (Fin 8) := [0, 1, 2, 3, 4, 5, 6, 7]

/-! ## The buffers and the semaphores -/

/-- The staged partial rows. -/
abbrev pbM : Memref sig .tc .vmem S512x512 .bf16 := Memref.whole cc0_stg0_0
/-- The result. -/
abbrev outM : Memref sig .tc .hbm S512x512 .f32 := Memref.whole main_v18
/-- The sums before they are copied out. -/
abbrev accM : Memref sig .tc .vmem S512x512 .f32 := Memref.whole cc0_scratch0
/-- The buffer the partner's rows land in. -/
abbrev rcvM : Memref sig .tc .vmem S512x512 .bf16 := Memref.whole cc0_scratch1

abbrev pbC (i : Fin 8) : Memref sig .tc .vmem S64x512 .bf16 := pbM.slice (rows i) (fun _ => rfl)
abbrev outC (i : Fin 8) : Memref sig .tc .hbm S64x512 .f32 := outM.slice (rows i) (fun _ => rfl)
abbrev accC (i : Fin 8) : Memref sig .tc .vmem S64x512 .f32 := accM.slice (rows i) (fun _ => rfl)
abbrev rcvC (i : Fin 8) : Memref sig .tc .vmem S64x512 .bf16 := rcvM.slice (rows i) (fun _ => rfl)

/-- The same, of the array that is sent and of the one in which it lands. -/
theorem pb_words (i : Fin 8) : (pbC i).view.WordExact := (Memref.isWhole_whole cc0_stg0_0).wordExact_slice rfl _ (rows_words i)
theorem rcv_words (i : Fin 8) : (rcvC i).view.WordExact := (Memref.isWhole_whole cc0_scratch1).wordExact_slice rfl _ (rows_words i)

/-- The barrier. -/
abbrev barS : Sem sig := ⟨0, by decide⟩
/-- Chunk `i`'s copy has left. -/
abbrev sendS (i : Fin 8) : DmaSem sig := (⟨1 + i.val, by have := i.isLt; omega⟩ : Fin 25)
/-- The partner's chunk `i` has landed. -/
abbrev recvS (i : Fin 8) : DmaSem sig := (⟨9 + i.val, by have := i.isLt; omega⟩ : Fin 25)
/-- Chunk `i` of the result is written. -/
abbrev outS (i : Fin 8) : DmaSem sig := (⟨17 + i.val, by have := i.isLt; omega⟩ : Fin 25)

/-! ## The steps -/

/-- The body's programs. -/
abbrev Body (F : FTy → Type) := Prog (TpuEff nD τ sig (Elt F) Λ₀ .tc) PUnit

/-- The sum of two chunks, taken at the narrow type and then widened. -/
def combine (a b : Vec F S64x512 .bf16) : Vec F S64x512 .f32 :=
  shapeCast S64x512 (extf .f32 (addf (shapeCast S64x512 a shapeCasts_S64x512_S64x512) b) bitsLt_bf16_f32) shapeCasts_S64x512_S64x512

/-- Copy chunk `i` of the own rows to device `p`. -/
def sendStep (p : Dev nD) (i : Fin 8) : Body F :=
  Prog.lift (.enqueueDma (pbC i) (.remote (Dev.tc p) (rcvC i) (.dma (sendS i))) (.dma (recvS i)) (pb_words i) (rcv_words i) ⟨⟨rfl, Or.inl rfl⟩, trivial⟩)

/-- Wait for the partner's chunk `i`, add the own one to it, and start copying the sum out. -/
def combStep (i : Fin 8) : Body F := do
  Prog.lift (.waitDma2 (recvS i) (pbC i) (rcvC i) (pb_words i) (rcv_words i))
  let a : Vec F S64x512 .bf16 ← Prog.lift (.load pbM (rows i).toLoadRect (View.loadsAt_vmem h_S64x512))
  let b : Vec F S64x512 .bf16 ← Prog.lift (.load rcvM (rows i).toLoadRect (View.loadsAt_vmem h_S64x512))
  let _ : Vec F S64x512 .f32 ← Prog.lift (.load accM (rows i).toLoadRect (View.loadsAt_vmem h_S64x512))
  Prog.lift (.store accM (rows i) (combine a b) Finset.univ (View.stores_vmem_bits_univ h_S64x512 rfl) (.inl rfl))
  Prog.lift (.enqueueDma (accC i) (.here (outC i)) (.dma (outS i)) (View.wordExact_bits rfl) (View.wordExact_bits rfl) ⟨Or.inl rfl, trivial⟩)

/-- Wait until chunk `i` of the result is written and the own chunk `i` has left. -/
def drainStep (i : Fin 8) : Body F := do
  Prog.lift (.waitDma2 (outS i) (accC i) (outC i) (View.wordExact_bits rfl) (View.wordExact_bits rfl))
  Prog.lift (.waitDma2 (sendS i) (rcvC i) (pbC i) (rcv_words i) (pb_words i))

/-- A step for each chunk of the list in turn. -/
def forAll (f : Fin 8 → Body F) : List (Fin 8) → Body F
  | [] => pure ⟨⟩
  | i :: l => f i >>= fun _ => forAll f l

/-- The whole body, the partner named once per use: `p 0` by the signal, `p (1 + i)` by chunk `i`'s copy. -/
def stepsWith (p : Fin 9 → Dev nD → Dev nD) : Body F := do
  let d ← Prog.lift .deviceId
  Prog.lift (.semSignal (Dev.tc (p 0 d)) barS 1)
  Prog.lift (.semWait barS 1)
  forAll (fun i => sendStep (p i.succ d) i) chunks
  forAll combStep chunks
  forAll drainStep chunks

/-- The body. -/
def steps : Body F := stepsWith fun _ => pr

/-- The partner as the printed body computes it, use by use. -/
def printedPartner : Fin 9 → Dev nD → Dev nD
  | 0, d => ⟨k0_dev1 d, k0_dev1_lt d⟩
  | 1, d => ⟨k0_dev2 d, k0_dev2_lt d⟩
  | 2, d => ⟨k0_dev3 d, k0_dev3_lt d⟩
  | 3, d => ⟨k0_dev4 d, k0_dev4_lt d⟩
  | 4, d => ⟨k0_dev5 d, k0_dev5_lt d⟩
  | 5, d => ⟨k0_dev6 d, k0_dev6_lt d⟩
  | 6, d => ⟨k0_dev7 d, k0_dev7_lt d⟩
  | 7, d => ⟨k0_dev8 d, k0_dev8_lt d⟩
  | 8, d => ⟨k0_dev9 d, k0_dev9_lt d⟩

/-- The printed partner's number, -/
theorem printedPartner_val (j : Fin 9) (d : Dev nD) : (printedPartner j d).val = (4 * ((d.val / 4) % 4) + (d.val % 4) + 16) - 16 * (d.val / 16) := by
  match j with
  | 0 => exact k0_dev1_eq d
  | 1 => exact k0_dev2_eq d
  | 2 => exact k0_dev3_eq d
  | 3 => exact k0_dev4_eq d
  | 4 => exact k0_dev5_eq d
  | 5 => exact k0_dev6_eq d
  | 6 => exact k0_dev7_eq d
  | 7 => exact k0_dev8_eq d
  | 8 => exact k0_dev9_eq d

/-- which is the partner's. -/
theorem printedPartner_eq : printedPartner = fun _ => pr := by
  funext j d
  apply Fin.ext
  rw [printedPartner_val]
  show _ = (d.val + 16) % 32
  have h : d.val < 32 := d.isLt
  omega

set_option maxRecDepth 65536 in
/-- The printed body is the loop with the partner as printed. -/
theorem body_stepsWith : cc0_body (F := F) pbM (Memref.isWhole_whole _) outM (Memref.isWhole_whole _) accM (Memref.isWhole_whole _) rcvM (Memref.isWhole_whole _)
    cc0_scratch2 cc0_scratch3 cc0_scratch4 = stepsWith printedPartner := rfl

/-- The body the pipeline calls is the loop. -/
theorem body_steps (t : Fin cfg0.N) : bodyAt0 (F := F) t = steps := by
  show cc0_body (F := F) pbM _ outM _ accM _ rcvM _ cc0_scratch2 cc0_scratch3 cc0_scratch4 = steps
  rw [body_stepsWith, printedPartner_eq]
  rfl

end Cert.Exchange

end
-- ==== Proof.Schedule.lean ====
/-
  What the devices exchange and in what order. Device `c` and its partner each hold 512 rows of partial values; each
  sends its rows to the other in eight chunks and both add the two. This module names the semaphore cells, the pieces of
  the buffers that travel through them, what every cell pays out, and what each core owes when it starts.
-/
module

public import proofs.«01_k».proof.Proof.Steps
public import Idealize.ShloMosaic.Lib.Rounds
public import Idealize.ShloMosaic.Lib.StableHlo
public import Idealize.ShloMosaic.Lib.Tactic
public import Idealize.ShloMosaic.Lib.Pipeline.RegionTalk
public import Idealize.ShloMosaic.Lib.Ring
public import Idealize.ShloMosaic.Harness.Basic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline library's part and the exchange's -/

abbrev UU : Type := UR sig nD τ × UR sig nD τ

local notation "𝕄" => MT nD τ sig Unit (Elt F) ℕ UU ℕ

/-- Where the pipeline's part lies, and where the exchange's. -/
abbrev EP : Emb (UR sig nD τ) (MT nD τ sig Unit (Elt F) ℕ UU ℕ) := embL
abbrev ER : Emb (UR sig nD τ) (MT nD τ sig Unit (Elt F) ℕ UU ℕ) := embR
abbrev 𝒱₀ : Variants := Variants.none

/-! ## The cells -/

abbrev barCell (c : Dev nD) : GSem nD τ sig := ((c : Thread nD τ), .reg barS)
/-- The cells of a device's send, receive and copy-out semaphores, by chunk. -/
abbrev sendCell (c : Dev nD) (i : Fin 8) : GSem nD τ sig := ((c : Thread nD τ), .dma (sendS i))
abbrev recvCell (c : Dev nD) (i : Fin 8) : GSem nD τ sig := ((c : Thread nD τ), .dma (recvS i))
abbrev outCell (c : Dev nD) (i : Fin 8) : GSem nD τ sig := ((c : Thread nD τ), .dma (outS i))

/-- The kernel's own semaphores: three arrays of eight. -/
def osem : Fin 3 × Fin 8 → SemLoc sig
  | (0, i) => .dma (sendS i)
  | (1, i) => .dma (recvS i)
  | (2, i) => .dma (outS i)

/-- Which of the arrays a semaphore lies in: 1 sending, 2 receiving, 3 writing out, 0 none. -/
def kind (k : Fin 25) : ℕ := (k.val + 7) / 8
/-- Its place in the array. -/
def chunk (k : Fin 25) : Fin 8 := ⟨(k.val + 7) % 8, Nat.mod_lt _ (by decide)⟩

/-- Which array a semaphore belongs to, and which chunk it serves. -/
theorem kind_send : ∀ i : Fin 8, kind (sendS i) = 1 := by decide
theorem kind_recv : ∀ i : Fin 8, kind (recvS i) = 2 := by decide
theorem kind_out : ∀ i : Fin 8, kind (outS i) = 3 := by decide
theorem chunk_send : ∀ i : Fin 8, chunk (sendS i) = i := by decide
theorem chunk_recv : ∀ i : Fin 8, chunk (recvS i) = i := by decide
theorem chunk_out : ∀ i : Fin 8, chunk (outS i) = i := by decide

/-- Different chunks have different receive semaphores. -/
theorem recvS_inj {i j : Fin 8} (h : recvS i = recvS j) : i = j := by rw [← chunk_recv i, ← chunk_recv j, h]

/-- A receive cell determines its device and chunk. -/
theorem recvCell_inj {c d : Dev nD} {i j : Fin 8} (h : recvCell c i = recvCell d j) : c = d ∧ i = j := by
  refine ⟨congrArg (fun g : GSem nD τ sig => g.1.1) h, recvS_inj ?_⟩
  have h2 : (SemLoc.dma (recvS i) : SemLoc sig) = .dma (recvS j) := congrArg Prod.snd h
  injection h2

/-- A receive semaphore is not the barrier's. -/
theorem recv_ne_bar (i : Fin 8) : (SemLoc.dma (recvS i) : SemLoc sig) ≠ .reg barS := fun h => by cases h

/-- What a chunk's transfer adds to a semaphore, at the narrow type and at the wide one. -/
abbrev nIn : ℕ := (rcvC 0).view.dmaCredit
abbrev nOut : ℕ := (outC 0).view.dmaCredit

/-- Both amounts are positive. -/
theorem nIn_pos : 0 < nIn := View.dmaCredit_pos _ (by decide)
theorem nOut_pos : 0 < nOut := View.dmaCredit_pos _ (by decide)

/-! ## The pieces of the buffers -/

/-- The partial rows of every device, and the sum. -/
abbrev Partials (F : FTy → Type) : Type := Dev nD → Vec F S512x512 .bf16

/-- The result on device `c`: its rows and its partner's, added at the narrow type and widened. -/
def total (P : Partials F) (c : Dev nD) : Vec F S512x512 .f32 := extf .f32 (addf (P c) (P (pr c))) bitsLt_bf16_f32

variable (P : Partials F)

/-- Rows `i` of a buffer of device `c`, at a share `q`, reading as `f`. -/
abbrev pbPt (c : Dev nD) (q : PosShare TreeShare) (i : Fin 8) (f : Buf (Elt F) ((pbC i).view.loc (c : Thread nD τ))) : sProp 𝕄 :=
  (pbC i).view.loc (c : Thread nD τ) ↦[(pbC i).view.set]{q} f
abbrev rcvPt (c : Dev nD) (i : Fin 8) (f : Buf (Elt F) ((rcvC i).view.loc (c : Thread nD τ))) : sProp 𝕄 :=
  (rcvC i).view.loc (c : Thread nD τ) ↦[(rcvC i).view.set]{fullShare} f
abbrev accPt (c : Dev nD) (i : Fin 8) (f : Buf (Elt F) ((accC i).view.loc (c : Thread nD τ))) : sProp 𝕄 :=
  (accC i).view.loc (c : Thread nD τ) ↦[(accC i).view.set]{fullShare} f
abbrev outPt (c : Dev nD) (i : Fin 8) (f : Buf (Elt F) ((outC i).view.loc (c : Thread nD τ))) : sProp 𝕄 :=
  (outC i).view.loc (c : Thread nD τ) ↦[(outC i).view.set]{fullShare} f

/-- The half of the own rows the copies carry, and the half the additions read. -/
abbrev lent : PosShare TreeShare := fullShare.right
abbrev kept : PosShare TreeShare := fullShare.left

/-- The eight chunks of rows are disjoint and make up the buffer. -/
theorem rows_disjoint (i j : Fin 8) (h : i ≠ j) : Disjoint (rows i).set (rows j).set :=
  Rect.unit_disjoint 0 (by
    have : i.val ≠ j.val := fun e => h (Fin.ext e)
    show 64 * i.val + 64 ≤ 64 * j.val ∨ 64 * j.val + 64 ≤ 64 * i.val
    omega)

/-- The eight chunks are all the rows. -/
theorem rows_cover : (Finset.univ : Finset (Fin 8)).biUnion (fun i => (rows i).set) = Finset.univ := by
  ext x
  simp only [Finset.mem_biUnion, Finset.mem_univ, true_and, iff_true]
  have h0 : (x 0).val < 512 := (x 0).isLt
  have h1 : (x 1).val < 512 := (x 1).isLt
  refine ⟨⟨(x 0).val / 64, by omega⟩, Rect.mem_set_unit.mpr (Fin.forall_fin_two.mpr ⟨?_, ?_⟩)⟩
  · show 64 * ((x 0).val / 64) ≤ (x 0).val ∧ (x 0).val < 64 * ((x 0).val / 64) + 64
    omega
  · show 0 ≤ (x 1).val ∧ (x 1).val < 0 + 512
    omega

/-! ## What the cells pay out -/

/-- To the barrier of `c`, by its partner: the partner's landing buffer, chunk by chunk, each with its receive cell open. -/
def barPay (c : Dev nD) : sProp 𝕄 :=
  bigSep Finset.univ fun i : Fin 8 => iprop((∃ f, rcvPt (pr c) i f) ∗ reached ER (recvCell (pr c) i) 0)
/-- To the send cell of chunk `i`: the share of the own rows the copy carried. -/
def sendPay (c : Dev nD) (i : Fin 8) : sProp 𝕄 := pbPt c lent i (P c)
/-- To the receive cell of chunk `i`: the landing buffer's rows, reading as the partner's. -/
def recvPay (c : Dev nD) (i : Fin 8) : sProp 𝕄 := rcvPt c i (P (pr c))
/-- To the cell of chunk `i`'s copy out: the result's rows and the sums they were copied from. -/
def outPay (c : Dev nD) (i : Fin 8) : sProp 𝕄 := iprop(outPt c i (total P c) ∗ accPt c i (total P c))

/-- What a transfer semaphore of device `c` pays out. -/
def dmaPay (c : Dev nD) (k : Fin 25) : sProp 𝕄 :=
  if kind k = 1 then sendPay P c (chunk k) else if kind k = 2 then recvPay P c (chunk k)
  else if kind k = 3 then outPay P c (chunk k) else iprop(emp)

/-- One duty on the barrier and on each of the kernel's own cells, all in round 0. -/
def rd : Rounds.Schedule (GSem nD τ sig) Unit 𝕄 where
  duties g r := if r = 0 ∧ g.1.2 = .tc then {()} else ∅
  unitless _ := False
  amount g _ _ := match g.2 with
    | .reg _ => 1
    | .dma k => if kind k = 3 then nOut else nIn
  payload g _ _ := match g.2 with
    | .reg _ => barPay g.1.1
    | .dma k => dmaPay P g.1.1 k
  amount_pos g _ _ _ := by
    split
    · exact Nat.one_pos
    · split
      · exact nOut_pos
      · exact nIn_pos

/-- Whatever a cell pays can be kept in its invariant. -/
instance rd_payload_storable (g : GSem nD τ sig) (r : ℕ) (d : Unit) :
    BI.Storable (upEmb : UEmb _ 𝕄) ((rd P).payload g r d) := by
  dsimp only [rd]
  unfold barPay dmaPay sendPay recvPay outPay
  (repeat' split) <;> infer_instance

section Sched

variable (c : Dev nD) (i : Fin 8) (u : Unit)

/-- Every cell of a core has one duty in its first round, -/
theorem duties_tc (sm : SemLoc sig) : (rd P).duties ((c : Thread nD τ), sm) 0 = {()} := by
  dsimp only [rd]; exact if_pos ⟨rfl, rfl⟩
theorem duties_mem (sm : SemLoc sig) : () ∈ (rd P).duties ((c : Thread nD τ), sm) 0 := by
  rw [duties_tc]; exact Finset.mem_singleton_self _
/-- and none later. -/
theorem duties_later (g : GSem nD τ sig) : ∀ r, 0 + 1 ≤ r → (rd P).duties g r = ∅ :=
  fun r hr => if_neg fun h => by omega

/-- The amounts: one for a barrier, a chunk's bytes for the copies. -/
theorem amount_bar : (rd P).amount (barCell c) 0 u = 1 := rfl
theorem amount_send : (rd P).amount (sendCell c i) 0 u = nIn := if_neg (by rw [kind_send]; decide)
theorem amount_recv : (rd P).amount (recvCell c i) 0 u = nIn := if_neg (by rw [kind_recv]; decide)
theorem amount_out : (rd P).amount (outCell c i) 0 u = nOut := if_pos (kind_out i)

/-- The one duty of a cell is all its round waits for. -/
theorem expect_of (sm : SemLoc sig) (n : ℕ) (h : (rd P).amount ((c : Thread nD τ), sm) 0 () = n) :
    0 + n = (rd P).expect ((c : Thread nD τ), sm) 0 := by
  unfold Schedule.expect Schedule.amountOf; rw [duties_tc, Finset.sum_singleton, h, Nat.zero_add]

/-- What each cell pays. -/
theorem payload_bar : (rd P).payload (barCell c) 0 u = barPay c := rfl
theorem payload_send : (rd P).payload (sendCell c i) 0 u = sendPay P c i := by
  show dmaPay P c (sendS i) = _
  unfold dmaPay; rw [if_pos (kind_send i), chunk_send]
theorem payload_recv : (rd P).payload (recvCell c i) 0 u = recvPay P c i := by
  show dmaPay P c (recvS i) = _
  unfold dmaPay; rw [if_neg (by rw [kind_recv]; decide), if_pos (kind_recv i), chunk_recv]
theorem payload_out : (rd P).payload (outCell c i) 0 u = outPay P c i := by
  show dmaPay P c (outS i) = _
  unfold dmaPay; rw [if_neg (by rw [kind_out]; decide), if_neg (by rw [kind_out]; decide), if_pos (kind_out i), chunk_out]

/-- What is left to pay of a round nothing was taken from is its one payload. -/
theorem rest_of (sm : SemLoc sig) (X : sProp 𝕄) (h : (rd P).payload ((c : Thread nD τ), sm) 0 () = X) :
    bigSep ((rd P).duties ((c : Thread nD τ), sm) 0 \ ∅) (fun u => (rd P).payload ((c : Thread nD τ), sm) 0 u) = X := by
  rw [Finset.sdiff_empty, duties_tc, bigSep_singleton, h]

end Sched

/-! ## What each core owes; the levels -/

/-- What device `c` still owes its partner's receive cells when the chunks of the list are yet to be sent. -/
def owed (c : Dev nD) : List (Fin 8) → CellTallies nD τ sig Unit
  | [] => 0
  | i :: l => owed c l + tallyAt (recvCell (pr c) i) () nIn

/-- At the start: every chunk, and one unit to the partner's barrier. -/
def O₀ (c : Dev nD) : CellTallies nD τ sig Unit := owed c chunks + tallyAt (barCell (pr c)) () 1

/-- The cells of the cores carry a level each. -/
def L (g : GSem nD τ sig) : Finset Unit := if g.1.2 = .tc then {()} else ∅
/-- Barriers at 1, receive cells at 2, everything else at 0. -/
def lv (g : GSem nD τ sig) (_ : Unit) : ℕ := match g.2 with
  | .reg _ => 1
  | .dma k => if kind k = 2 then 2 else 0

/-- No other cell does. -/
theorem L_of_ne (g : GSem nD τ sig) (h : g.1.2 ≠ .tc) : L g = ∅ := if_neg h
theorem L_tc (c : Dev nD) (sm : SemLoc sig) : L ((c : Thread nD τ), sm) = {()} := if_pos rfl
theorem L_mem (c : Dev nD) (sm : SemLoc sig) (u : Unit) : u ∈ L ((c : Thread nD τ), sm) := by rw [L_tc]; exact Finset.mem_singleton_self _
/-- The receive cells lie at level 2. -/
theorem lv_recv (c : Dev nD) (i : Fin 8) (u : Unit) : lv (recvCell c i) u = 2 := if_pos (kind_recv i)

/-- Only the partner's receive cells are owed to. -/
theorem owed_pos {c : Dev nD} {g : GSem nD τ sig} {u : Unit} : ∀ {l : List (Fin 8)}, 0 < owed c l g u → ∃ i, g = recvCell (pr c) i
  | [], h => absurd h (Nat.lt_irrefl 0)
  | i :: l, h => by
    unfold owed at h
    rw [Pi.add_apply, Finsupp.add_apply] at h
    rcases Nat.add_pos_iff_pos_or_pos.mp h with h | h
    · exact owed_pos h
    · rw [tallyAt_apply] at h
      split at h
      · next hg => exact ⟨i, hg.1⟩
      · exact absurd h (Nat.lt_irrefl 0)

/-- What a core owes at the start lies on its partner's cells alone. -/
theorem O₀_pos {c : Dev nD} {g : GSem nD τ sig} {u : Unit} (h : 0 < O₀ c g u) : (∃ i, g = recvCell (pr c) i) ∨ g = barCell (pr c) := by
  unfold O₀ at h
  rw [Pi.add_apply, Finsupp.add_apply] at h
  rcases Nat.add_pos_iff_pos_or_pos.mp h with h | h
  · exact .inl (owed_pos h)
  · rw [tallyAt_apply] at h
    split at h
    · next hg => exact .inr hg.1
    · exact absurd h (Nat.lt_irrefl 0)

/-- The barrier may be waited for while the chunks are owed. -/
theorem mayWait_bar (c : Dev nD) (l : List (Fin 8)) :
    (levAts L lv : sProp 𝕄) ⊢ MayWait (c : Thread nD τ) (.reg barS) () (owed c l) :=
  MayOwe.of_cut (L := L) (lev := lv) 1 (fun p hp => by rw [Finset.mem_singleton.mp hp]; exact L_mem c _ _)
    (fun g u hg => by obtain ⟨i, rfl⟩ := owed_pos hg; exact L_mem _ _ _)
    (fun p hp => by rw [Finset.mem_singleton.mp hp]; exact le_refl 1)
    (fun g u hg => by obtain ⟨i, rfl⟩ := owed_pos hg; rw [lv_recv]; decide)

end Cert.Exchange

end
-- ==== Proof.Loop.lean ====
/-
  A step for every chunk in turn, and the three steps of the exchange: sending a chunk, adding the partner's chunk to the
  own one and copying the sum out, and waiting for the copies to have finished. Each is run once, for an arbitrary chunk.
-/
module

public import proofs.«01_k».proof.Proof.Schedule
public import Idealize.ShloMosaic.Lib.ViewIndex
public import Idealize.ShloMosaic.Lib.Pipeline.Value

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A program of device `c` run to the end. -/
abbrev run (c : Dev nD) (p : Body F) (Q : PUnit → sProp 𝕄) : sProp 𝕄 :=
  wp frame (wpE (defs₀ (F := F)) 𝒱₀ c none) Set.univ p Q

/-- A step for every chunk: each takes `A i` to `B i`, and `J` carries over what the steps share. -/
theorem run_forAll (c : Dev nD) (f : Fin 8 → Body F) (A B : Fin 8 → sProp 𝕄) (J : List (Fin 8) → sProp 𝕄)
    (step : ∀ i l Q, iprop(A i ∗ J (i :: l) ∗ ((B i ∗ J l) -∗ Q ⟨⟩)) ⊢ run c (f i) Q) :
    ∀ l : List (Fin 8), l.Nodup → ∀ Q,
      iprop(bigSep l.toFinset A ∗ J l ∗ ((bigSep l.toFinset B ∗ J []) -∗ Q ⟨⟩)) ⊢ run c (forAll f l) Q
  | [], _, Q => by
    show _ ⊢ run c (pure ⟨⟩) Q
    rw [List.toFinset_nil, bigSep_empty, bigSep_empty]
    show _ ⊢ wp frame _ Set.univ (Prog.ret ⟨⟩) Q
    rw [wp_ret]
    iintro ⟨-, HJ, HQ⟩
    imodintro
    iapply HQ
    isplitr; · iempintro
    iexact HJ
  | i :: l, h, Q => by
    have hi : i ∉ l.toFinset := fun hm => (List.nodup_cons.mp h).1 (List.mem_toFinset.mp hm)
    show _ ⊢ run c (f i >>= fun _ => forAll f l) Q
    have e (Φ : Fin 8 → sProp 𝕄) : bigSep (insert i l.toFinset) Φ = iprop(Φ i ∗ bigSep l.toFinset Φ) := bigSep_insert hi
    rw [List.toFinset_cons, e, e]
    simp only [run, wp_bind]
    iintro ⟨⟨HA, HAs⟩, HJ, HQ⟩
    iapply (step i l _)
    isplitl [HA]; · iexact HA
    isplitl [HJ]; · iexact HJ
    iintro ⟨HB, HJ⟩
    iapply (run_forAll c f A B J step l (List.nodup_cons.mp h).2 Q)
    isplitl [HAs]; · iexact HAs
    isplitl [HJ]; · iexact HJ
    iintro ⟨HBs, HJ⟩
    iapply HQ
    isplitr [HJ]
    · isplitl [HB]; · iexact HB
      iexact HBs
    iexact HJ

/-- No chunk is listed twice. -/
theorem chunks_nodup : chunks.Nodup := by decide
/-- Every chunk is listed. -/
theorem chunks_all : chunks.toFinset = Finset.univ := by decide

/-- The loop over all eight. -/
theorem run_chunks (c : Dev nD) (f : Fin 8 → Body F) (A B : Fin 8 → sProp 𝕄) (J : List (Fin 8) → sProp 𝕄)
    (step : ∀ i l Q, iprop(A i ∗ J (i :: l) ∗ ((B i ∗ J l) -∗ Q ⟨⟩)) ⊢ run c (f i) Q) (Q : PUnit → sProp 𝕄) :
    iprop(bigSep Finset.univ A ∗ J chunks ∗ ((bigSep Finset.univ B ∗ J []) -∗ Q ⟨⟩)) ⊢ run c (forAll f chunks) Q := by
  have h := run_forAll c f A B J step chunks chunks_nodup Q
  rwa [chunks_all] at h

variable (P : Partials F) (K : GSem nD τ sig → ℕ)

/-! ## What the steps write -/

/-- What lands in the partner's rows are the sender's rows. -/
theorem landed_pt (c : Dev nD) (i : Fin 8) (fd) :
    (rcvPt (pr c) i ((rcvC i).view.write (Elt F) fd ((pbC i).view.read (Elt F) (P c)) Finset.univ) : sProp 𝕄) = rcvPt (pr c) i (P c) := by
  refine pointsTo_congr fun x hx => ?_
  obtain ⟨j, rfl⟩ := View.exists_of_mem_set_slice hx
  exact View.write_emb_of_mem (v := (rcvC i).view) _ _ (Finset.mem_univ j)

/-- What the copy out writes are the rows it read. -/
theorem copied_pt (c : Dev nD) (i : Fin 8) (fd) (f : Vec F S512x512 .f32) :
    (outPt c i ((outC i).view.write (Elt F) fd ((accC i).view.read (Elt F) f) Finset.univ) : sProp 𝕄) = outPt c i f := by
  refine pointsTo_congr fun x hx => ?_
  obtain ⟨j, rfl⟩ := View.exists_of_mem_set_slice hx
  exact View.write_emb_of_mem (v := (outC i).view) _ _ (Finset.mem_univ j)

/-- What the addition stores are the rows of the total. -/
theorem stored_pt (c : Dev nD) (i : Fin 8) (f) :
    (accPt c i ((accM.access (rows i)).write (Elt F) f
      (combine ((pbM.access (rows i)).read (Elt F) (P c)) ((rcvM.access (rows i)).read (Elt F) (P (pr c)))) Finset.univ) : sProp 𝕄)
      = accPt c i (total P c) := by
  refine pointsTo_congr fun x hx => ?_
  obtain ⟨j, rfl⟩ := View.exists_of_mem_set_slice hx
  refine (View.write_emb_of_mem (v := accM.access (rows i)) _ _ (Finset.mem_univ j)).trans ?_
  unfold combine
  rw [shapeCast_self, shapeCast_self]
  rfl

/-! ## Sending a chunk -/

/-- What the sending of chunk `i` takes. -/
def sendPre (c : Dev nD) (i : Fin 8) : sProp 𝕄 :=
  iprop(cellInv ER (rd P) (K (sendCell c i)) (sendCell c i) ∗ cellInv ER (rd P) (K (recvCell (pr c) i)) (recvCell (pr c) i)
    ∗ pbPt c lent i (P c) ∗ (∃ f, rcvPt (pr c) i f)
    ∗ dutyTok ER (sendCell c i) 0 () ∗ reached ER (sendCell c i) 0 ∗ dutyTok ER (recvCell (pr c) i) 0 () ∗ reached ER (recvCell (pr c) i) 0)

/-- Between the steps the core owes the chunks yet to be sent. -/
def owing (c : Dev nD) (l : List (Fin 8)) : sProp 𝕄 := iprop(∃ W, owes (c : Thread nD τ) (owed c l) W)

/-- The send of a chunk, which pays one receive cell of the partner. -/
theorem run_send (c : Dev nD) (i : Fin 8) (l : List (Fin 8)) (Q : PUnit → sProp 𝕄) :
    iprop(sendPre P K c i ∗ owing c (i :: l) ∗ ((cred (tallyAt (sendCell c i) () nIn) ∗ owing c l) -∗ Q ⟨⟩))
      ⊢ run c (sendStep (pr c) i) Q := by
  unfold sendPre owing sendStep
  iintro ⟨⟨#HIs, #HIr, Hpb, ⟨%fd, Hrcv⟩, HtS, #HrS, HtR, #HrR⟩, ⟨%W, HO⟩, HQ⟩
  iapply (Rounds.wp_send_pointsTo 𝒱₀ ER (rd P) (c : Thread nD τ) none (c' := (pr c : Thread nD τ)) (src := pbC i) (dst := rcvC i)
      (sS := .dma (sendS i)) (sem := .dma (recvS i)) (q := lent) (fs := P c) (κ₁ := K (sendCell c i)) (κ₂ := K (recvCell (pr c) i))
      (r₁ := 0) (r₂ := 0) (d₁ := ()) (d₂ := ()) (fd := fd) (duties_mem P c _) (duties_mem P (pr c) _)
      () () nIn rfl (amount_send P c i ()) (amount_recv P (pr c) i ()) (owed c l) rfl (W := W)
      (by rw [payload_send]; exact BI.Entails.refl _)
      (by rw [payload_recv]; unfold recvPay; rw [pr_pr]; exact Entails.of_eq (landed_pt P c i fd))) $$ [Hpb Hrcv HO HtS HtR]
  · isplitr; · iexact HIs
    isplitr; · iexact HIr
    isplitl [Hpb]; · iexact Hpb
    isplitl [Hrcv]; · iexact Hrcv
    isplitl [HO]; · iexact HO
    isplitl [HtS]; · iexact HtS
    isplitr; · iexact HrS
    isplitl [HtR]; · iexact HtR
    iexact HrR
  iintro ⟨HcS, HO⟩
  rw [wp_ret]
  imodintro
  iapply HQ
  isplitl [HcS]; · iexact HcS
  iexists _; iexact HO

/-! ## Waiting for a cell's one round, owing nothing -/

/-- Once its round is over a cell closes: the counter is back, at zero. -/
theorem close_cell (c : Dev nD) (sm : SemLoc sig) :
    iprop(cellInv ER (rd P) (K ((c : Thread nD τ), sm)) ((c : Thread nD τ), sm) ∗ atPos ER ((c : Thread nD τ), sm) (0 + 1) ∅ 0)
      ⊢ (|={Set.univ}=> semVal ((c : Thread nD τ), sm) 0 : sProp 𝕄) :=
  Rounds.cell_close ER (rd P) (Set.mem_univ _) id (duties_later P _)

/-! ## Adding a chunk -/

/-- What the addition of chunk `i` takes. -/
def combPre (c : Dev nD) (i : Fin 8) : sProp 𝕄 :=
  iprop(cellInv ER (rd P) (K (recvCell c i)) (recvCell c i) ∗ cellInv ER (rd P) (K (outCell c i)) (outCell c i)
    ∗ cred (tallyAt (recvCell c i) () nIn) ∗ atPos ER (recvCell c i) 0 ∅ 0
    ∗ pbPt c kept i (P c) ∗ (∃ f, accPt c i f) ∗ (∃ f, outPt c i f) ∗ dutyTok ER (outCell c i) 0 () ∗ reached ER (outCell c i) 0)

/-- What it leaves. -/
def combPost (c : Dev nD) (i : Fin 8) : sProp 𝕄 :=
  iprop(semVal (recvCell c i) 0 ∗ rcvPt c i (P (pr c)) ∗ pbPt c kept i (P c) ∗ cred (tallyAt (outCell c i) () nOut))

/-- The addition of a chunk: wait for the partner's rows, add, start the copy out. -/
theorem run_comb (c : Dev nD) (i : Fin 8) (Q : PUnit → sProp 𝕄) :
    iprop(combPre P K c i ∗ owing c [] ∗ ((combPost P c i ∗ owing c []) -∗ Q ⟨⟩)) ⊢ run c (combStep i) Q := by
  unfold combPre owing combStep owed
  iintro ⟨⟨#HIr, #HIo, HcR, HatR, Hpb, ⟨%fa, Hacc⟩, ⟨%fo, Hout⟩, HtO, #HrO⟩, ⟨%W, HO⟩, HQ⟩
  iapply (Rounds.wp_wait_rest_token 𝒱₀ ER (rd P) (c : Thread nD τ) none (κ := K (recvCell c i))
      (wpE_waitDma2_eq (src := pbC i) (dst := rcvC i) 𝒱₀ (c : Thread nD τ) none Set.univ) (Set.mem_univ _) () (O := 0) (W := W) (R := 0) (m := 0) (T := ∅)
      (expect_of P c _ nIn (amount_recv P c i ()))) $$ [HcR HO HatR]
  · isplitr; · iexact HIr
    isplitl [HcR]; · iexact HcR
    isplitl [HO]; · iexact HO
    isplitr; · rw [MayWait_zero]; iempintro
    iexact HatR
  iintro ⟨HO, HatR, -, Hpay⟩
  ihave Hrcv := (Entails.of_eq (rest_of P c _ _ (payload_recv P c i ()))) $$ Hpay
  unfold recvPay
  imod (close_cell P K c (.dma (recvS i))) $$ [HatR] with HvR
  · isplitr; · iexact HIr
    iexact HatR
  iapply (wp_load_rect 𝒱₀ (c : Thread nD τ) none Set.univ (m := pbM) (r := rows i) (S := (pbC i).view.set) (Finset.Subset.refl _)) $$ Hpb
  iintro Hpb
  iapply (wp_load_rect 𝒱₀ (c : Thread nD τ) none Set.univ (m := rcvM) (r := rows i) (S := (rcvC i).view.set) (Finset.Subset.refl _)) $$ Hrcv
  iintro Hrcv
  iapply (wp_load_rect 𝒱₀ (c : Thread nD τ) none Set.univ (m := accM) (r := rows i) (S := (accC i).view.set) (Finset.Subset.refl _)) $$ Hacc
  iintro Hacc
  iapply (wp_store 𝒱₀ (c : Thread nD τ) none Set.univ (m := accM) (r := rows i) (S := (accC i).view.set) (Finset.Subset.refl _)) $$ Hacc
  iintro Hacc
  ihave Hacc := (Entails.of_eq (stored_pt P c i fa)) $$ Hacc
  iapply (Rounds.wp_copy_pointsTo 𝒱₀ ER (rd P) (c : Thread nD τ) none (src := accC i) (dst := outC i) (sem := .dma (outS i)) (q := fullShare)
      (fs := total P c) (fd := fo) (r := 0) (d := ()) (κ := K (outCell c i)) (duties_mem P c _) () nOut rfl (amount_out P c i ())
      (by rw [payload_out]; unfold outPay; exact BI.sep_mono (Entails.of_eq (copied_pt c i fo (total P c))) (BI.Entails.refl _))) $$ [Hacc Hout HtO]
  · isplitr; · iexact HIo
    isplitl [Hacc]; · iexact Hacc
    isplitl [Hout]; · iexact Hout
    isplitl [HtO]; · iexact HtO
    iexact HrO
  iintro HcO
  rw [wp_ret]
  imodintro
  iapply HQ
  unfold combPost
  isplitr [HO]
  · isplitl [HvR]; · iexact HvR
    isplitl [Hrcv]; · iexact Hrcv
    isplitl [Hpb]; · iexact Hpb
    iexact HcO
  iexists _; iexact HO

/-! ## The end of a chunk -/

/-- What the last waits of chunk `i` take. -/
def drainPre (c : Dev nD) (i : Fin 8) : sProp 𝕄 :=
  iprop(cellInv ER (rd P) (K (outCell c i)) (outCell c i) ∗ cellInv ER (rd P) (K (sendCell c i)) (sendCell c i)
    ∗ cred (tallyAt (outCell c i) () nOut) ∗ cred (tallyAt (sendCell c i) () nIn)
    ∗ atPos ER (outCell c i) 0 ∅ 0 ∗ atPos ER (sendCell c i) 0 ∅ 0)

/-- What they leave. -/
def drainPost (c : Dev nD) (i : Fin 8) : sProp 𝕄 :=
  iprop(semVal (outCell c i) 0 ∗ semVal (sendCell c i) 0 ∗ outPt c i (total P c) ∗ accPt c i (total P c) ∗ pbPt c lent i (P c))

/-- The last waits of a chunk: the copy out and the send are over. -/
theorem run_drain (c : Dev nD) (i : Fin 8) (Q : PUnit → sProp 𝕄) :
    iprop(drainPre P K c i ∗ owing c [] ∗ ((drainPost P c i ∗ owing c []) -∗ Q ⟨⟩)) ⊢ run c (drainStep i) Q := by
  unfold drainPre owing drainStep owed
  iintro ⟨⟨#HIo, #HIs, HcO, HcS, HatO, HatS⟩, ⟨%W, HO⟩, HQ⟩
  iapply (Rounds.wp_wait_rest_token 𝒱₀ ER (rd P) (c : Thread nD τ) none (κ := K (outCell c i))
      (wpE_waitDma2_eq (src := accC i) (dst := outC i) 𝒱₀ (c : Thread nD τ) none Set.univ) (Set.mem_univ _) () (O := 0) (W := W) (R := 0) (m := 0) (T := ∅)
      (expect_of P c _ nOut (amount_out P c i ()))) $$ [HcO HO HatO]
  · isplitr; · iexact HIo
    isplitl [HcO]; · iexact HcO
    isplitl [HO]; · iexact HO
    isplitr; · rw [MayWait_zero]; iempintro
    iexact HatO
  iintro ⟨HO, HatO, -, Hpay⟩
  ihave Hpo := (Entails.of_eq (rest_of P c _ _ (payload_out P c i ()))) $$ Hpay
  unfold outPay
  icases Hpo with ⟨Hout, Hacc⟩
  iapply (Rounds.wp_wait_rest_token 𝒱₀ ER (rd P) (c : Thread nD τ) none (κ := K (sendCell c i))
      (wpE_waitDma2_eq (src := rcvC i) (dst := pbC i) 𝒱₀ (c : Thread nD τ) none Set.univ) (Set.mem_univ _) () (O := 0)
      (W := insert (SemLoc.dma (outS i), ()) W) (R := 0) (m := 0) (T := ∅)
      (expect_of P c _ nIn (amount_send P c i ()))) $$ [HcS HO HatS]
  · isplitr; · iexact HIs
    isplitl [HcS]; · iexact HcS
    isplitl [HO]; · iexact HO
    isplitr; · rw [MayWait_zero]; iempintro
    iexact HatS
  iintro ⟨HO, HatS, -, Hpay⟩
  ihave Hpb := (Entails.of_eq (rest_of P c _ _ (payload_send P c i ()))) $$ Hpay
  unfold sendPay
  rw [wp_ret]
  imod (close_cell P K c (.dma (outS i))) $$ [HatO] with HvO
  · isplitr; · iexact HIo
    iexact HatO
  imod (close_cell P K c (.dma (sendS i))) $$ [HatS] with HvS
  · isplitr; · iexact HIs
    iexact HatS
  imodintro
  iapply HQ
  unfold drainPost
  isplitr [HO]
  · isplitl [HvO]; · iexact HvO
    isplitl [HvS]; · iexact HvS
    isplitl [Hout]; · iexact Hout
    isplitl [Hacc]; · iexact Hacc
    iexact Hpb
  iexists _; iexact HO

end Cert.Exchange

end
-- ==== Proof.Body.lean ====
/-
  The whole body run: signal the partner and wait for its signal, which carries its landing buffer; send the chunks; add
  them; wait for the copies. All that concerns one chunk is stated for an arbitrary chunk and taken over the eight at once.
-/
module

public import proofs.«01_k».proof.Proof.Loop

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families over the chunks -/

/-- The separating conjunction over the eight chunks. -/
abbrev each (Φ : Fin 8 → sProp 𝕄) : sProp 𝕄 := bigSep Finset.univ Φ

/-- A step for every chunk is a step for all of them. -/
theorem each_mono {Φ Ψ : Fin 8 → sProp 𝕄} (h : ∀ i, Φ i ⊢ Ψ i) : each Φ ⊢ each Ψ := bigSep_mono fun i _ => h i

/-- Two families over the chunks are one family of pairs. -/
theorem each_pair (Φ Ψ : Fin 8 → sProp 𝕄) : iprop(each Φ ∗ each Ψ) = each fun i => iprop(Φ i ∗ Ψ i) :=
  (bigSep_sep' Finset.univ Φ Ψ).symm

/-- Two families, chunk by chunk made into two others. -/
theorem each_two {Φ Ψ Φ' Ψ' : Fin 8 → sProp 𝕄} (h : ∀ i, iprop(Φ i ∗ Ψ i) ⊢ iprop(Φ' i ∗ Ψ' i)) :
    iprop(each Φ ∗ each Ψ) ⊢ iprop(each Φ' ∗ each Ψ') := by
  rw [each_pair, each_pair]; exact each_mono h

variable (P : Partials F) (K : GSem nD τ sig → ℕ)

/-! ## What a chunk holds -/

/-- The ghost state of chunk `i` of device `c`: the invariants of its own three cells and of the partner's receive cell;
    where the own cells stand; the tokens it pays with. -/
def chunkGhost (c : Dev nD) (i : Fin 8) : sProp 𝕄 :=
  iprop((cellInv ER (rd P) (K (sendCell c i)) (sendCell c i) ∗ cellInv ER (rd P) (K (recvCell c i)) (recvCell c i)
      ∗ cellInv ER (rd P) (K (outCell c i)) (outCell c i) ∗ cellInv ER (rd P) (K (recvCell (pr c) i)) (recvCell (pr c) i))
    ∗ (atPos ER (sendCell c i) 0 ∅ 0 ∗ atPos ER (recvCell c i) 0 ∅ 0 ∗ atPos ER (outCell c i) 0 ∅ 0)
    ∗ (reached ER (sendCell c i) 0 ∗ reached ER (recvCell c i) 0 ∗ reached ER (outCell c i) 0)
    ∗ dutyTok ER (sendCell c i) 0 () ∗ dutyTok ER (recvCell (pr c) i) 0 () ∗ dutyTok ER (outCell c i) 0 ())

/-- The credit for what will land, and the pieces of the buffers but the landing one. -/
def chunkBufs (c : Dev nD) (i : Fin 8) : sProp 𝕄 :=
  iprop(cred (tallyAt (recvCell c i) () nIn) ∗ pbPt c kept i (P c) ∗ pbPt c lent i (P c) ∗ (∃ f, accPt c i f) ∗ (∃ f, outPt c i f))

/-- The landing piece. -/
def landing (c : Dev nD) (i : Fin 8) : sProp 𝕄 := iprop(∃ f, rcvPt c i f)
/-- The same with its receive cell open: what the barrier carries. -/
def landingOpen (c : Dev nD) (i : Fin 8) : sProp 𝕄 := iprop((∃ f, rcvPt c i f) ∗ reached ER (recvCell c i) 0)

/-- What is kept for the last waits. -/
def later (c : Dev nD) (i : Fin 8) : sProp 𝕄 :=
  iprop(cellInv ER (rd P) (K (outCell c i)) (outCell c i) ∗ cellInv ER (rd P) (K (sendCell c i)) (sendCell c i)
    ∗ atPos ER (outCell c i) 0 ∅ 0 ∗ atPos ER (sendCell c i) 0 ∅ 0)

/-- What the addition leaves beside the credit for the copy out. -/
def added (c : Dev nD) (i : Fin 8) : sProp 𝕄 :=
  iprop(semVal (recvCell c i) 0 ∗ rcvPt c i (P (pr c)) ∗ pbPt c kept i (P c))

/-- A chunk's landing rows, joined by the fact that its receive cell is open. -/
theorem open_landing (c : Dev nD) (i : Fin 8) :
    iprop(chunkGhost P K c i ∗ landing c i) ⊢ iprop(chunkGhost P K c i ∗ landingOpen c i) := by
  unfold chunkGhost landing landingOpen
  iintro ⟨⟨Hi, Ha, ⟨Hs, #Hr, Ho⟩, Hd⟩, Hl⟩
  isplitr [Hl]
  · isplitl [Hi]; · iexact Hi
    isplitl [Ha]; · iexact Ha
    isplitl [Hs Ho]
    · isplitl [Hs]; · iexact Hs
      isplitr; · iexact Hr
      iexact Ho
    iexact Hd
  isplitl [Hl]; · iexact Hl
  iexact Hr

/-- What a chunk needs, dealt to its send, to its addition and to its last waits. -/
theorem deal (c : Dev nD) (i : Fin 8) :
    iprop((chunkGhost P K c i ∗ chunkBufs P c i) ∗ landingOpen (pr c) i)
      ⊢ iprop(sendPre P K c i ∗ (combPre P K c i ∗ later P K c i)) := by
  unfold chunkGhost chunkBufs landingOpen sendPre combPre later
  iintro ⟨⟨⟨⟨#HIs, #HIr, #HIo, #HIp⟩, ⟨HatS, HatR, HatO⟩, ⟨#HrS, #HrR, #HrO⟩, HtS, HtP, HtO⟩, ⟨Hc, Hk, Hl, Ha, Ho⟩⟩, ⟨Hp, #HrP⟩⟩
  isplitl [Hl Hp HtS HtP]
  · isplitr; · iexact HIs
    isplitr; · iexact HIp
    isplitl [Hl]; · iexact Hl
    isplitl [Hp]; · iexact Hp
    isplitl [HtS]; · iexact HtS
    isplitr; · iexact HrS
    isplitl [HtP]; · iexact HtP
    iexact HrP
  isplitr [HatO HatS]
  · isplitr; · iexact HIr
    isplitr; · iexact HIo
    isplitl [Hc]; · iexact Hc
    isplitl [HatR]; · iexact HatR
    isplitl [Hk]; · iexact Hk
    isplitl [Ha]; · iexact Ha
    isplitl [Ho]; · iexact Ho
    isplitl [HtO]; · iexact HtO
    iexact HrO
  isplitr; · iexact HIo
  isplitr; · iexact HIs
  isplitl [HatO]; · iexact HatO
  iexact HatS

/-- What the addition and the send of a chunk leave, put together for its last waits. -/
theorem gather (c : Dev nD) (i : Fin 8) :
    iprop((later P K c i ∗ cred (tallyAt (sendCell c i) () nIn)) ∗ combPost P c i) ⊢ iprop(drainPre P K c i ∗ added P c i) := by
  unfold later combPost drainPre added
  iintro ⟨⟨⟨HIo, HIs, HatO, HatS⟩, HcS⟩, HvR, Hrcv, Hk, HcO⟩
  isplitr [HvR Hrcv Hk]
  · isplitl [HIo]; · iexact HIo
    isplitl [HIs]; · iexact HIs
    isplitl [HcO]; · iexact HcO
    isplitl [HcS]; · iexact HcS
    isplitl [HatO]; · iexact HatO
    iexact HatS
  isplitl [HvR]; · iexact HvR
  isplitl [Hrcv]; · iexact Hrcv
  iexact Hk

/-! ## The body -/

/-- The invariants of the two barriers, where the own one stands, the token for the partner's. -/
def barGhost (c : Dev nD) : sProp 𝕄 :=
  iprop((cellInv ER (rd P) (K (barCell c)) (barCell c) ∗ cellInv ER (rd P) (K (barCell (pr c))) (barCell (pr c)))
    ∗ atPos ER (barCell c) 0 ∅ 0 ∗ reached ER (barCell (pr c)) 0 ∗ dutyTok ER (barCell (pr c)) 0 ())

/-- What the body takes. -/
def bodyPre (c : Dev nD) : sProp 𝕄 :=
  iprop(barGhost P K c ∗ cred (tallyAt (barCell c) () 1) ∗ levAts L lv
    ∗ each (chunkGhost P K c) ∗ each (chunkBufs P c) ∗ each (landing c) ∗ ∃ W, owes (c : Thread nD τ) (O₀ c) W)

/-- What it leaves: every counter at zero, the result written, the other buffers back, nothing owed. -/
def bodyPost (c : Dev nD) : sProp 𝕄 :=
  iprop(semVal (barCell c) 0 ∗ each (drainPost P c) ∗ each (added P c) ∗ owing c [])

/-- A barrier pays the partner's landing rows, all eight chunks. -/
theorem barPay_eq (c : Dev nD) : (barPay c : sProp 𝕄) = each (landingOpen (pr c)) := rfl

/-- The signal and the wait: the own landing pieces go, the partner's come. -/
theorem run_barrier (c : Dev nD) (rest : Body F) (Q : PUnit → sProp 𝕄) :
    iprop(barGhost P K c ∗ cred (tallyAt (barCell c) () 1) ∗ levAts L lv ∗ each (landingOpen c) ∗ (∃ W, owes (c : Thread nD τ) (O₀ c) W)
        ∗ ((semVal (barCell c) 0 ∗ each (landingOpen (pr c)) ∗ owing c chunks) -∗ run c rest Q))
      ⊢ run c (Prog.lift (.semSignal (Dev.tc (pr c)) barS 1) >>= fun _ => Prog.lift (.semWait barS 1) >>= fun _ => rest) Q := by
  unfold barGhost
  iintro ⟨⟨⟨#HIb, #HIp⟩, HatB, #HrP, HtP⟩, HcB, #Hlev, Hl, ⟨%W, HO⟩, HQ⟩
  iapply (Rounds.wp_signal 𝒱₀ ER (rd P) (c : Thread nD τ) none (dst := (pr c : Thread nD τ)) (sem := barS) (r := 0) (d := ()) (κ := K (barCell (pr c)))
      (duties_mem P (pr c) _) (amount_bar P (pr c) ()) () (owed c chunks) rfl) $$ [HO HtP Hl]
  · isplitr; · iexact HIp
    isplitl [HO]; · iexact HO
    isplitl [HtP]; · iexact HtP
    isplitl [Hl]
    · rw [payload_bar]; unfold barPay; rw [pr_pr]; iexact Hl
    · iexact HrP
  iintro HO
  iapply (Rounds.wp_wait_rest_token 𝒱₀ ER (rd P) (c : Thread nD τ) none (κ := K (barCell c))
      (wpE_semWait_eq 𝒱₀ (c : Thread nD τ) none Set.univ) (Set.mem_univ _) () (O := owed c chunks) (W := W) (R := 0) (m := 0) (T := ∅)
      (expect_of P c _ 1 (amount_bar P c ()))) $$ [HcB HO HatB]
  · isplitr; · iexact HIb
    isplitl [HcB]; · iexact HcB
    isplitl [HO]; · iexact HO
    isplitr; · iapply (mayWait_bar c chunks); iexact Hlev
    iexact HatB
  iintro ⟨HO, HatB, -, Hpay⟩
  ihave Hl := (Entails.of_eq ((rest_of P c _ _ (payload_bar P c ())).trans (barPay_eq c))) $$ Hpay
  imod (close_cell P K c (.reg barS)) $$ [HatB] with HvB
  · isplitr; · iexact HIb
    iexact HatB
  iapply HQ
  isplitl [HvB]; · iexact HvB
  isplitl [Hl]; · iexact Hl
  unfold owing; iexists _; iexact HO

/-- The three loops, the partner's landing pieces in hand. -/
theorem run_loops (c : Dev nD) (Q : PUnit → sProp 𝕄) :
    iprop(each (chunkGhost P K c) ∗ each (chunkBufs P c) ∗ each (landingOpen (pr c)) ∗ owing c chunks
        ∗ ((each (drainPost P c) ∗ each (added P c) ∗ owing c []) -∗ Q ⟨⟩))
      ⊢ run c (forAll (sendStep (pr c)) chunks >>= fun _ => forAll combStep chunks >>= fun _ => forAll drainStep chunks) Q := by
  simp only [run, wp_bind]
  iintro ⟨Hg, Hb, Hl, HO, HQ⟩
  icombine Hg Hb as H
  ihave H := (Entails.of_eq (each_pair _ _)) $$ H
  icombine H Hl as H
  ihave H := (each_two (deal P K c)) $$ H
  icases H with ⟨HA, H⟩
  ihave H := (Entails.of_eq (each_pair _ _).symm) $$ H
  icases H with ⟨HC, HD⟩
  iapply (run_chunks c (sendStep (pr c)) (sendPre P K c) (fun i => cred (tallyAt (sendCell c i) () nIn)) (owing c) (run_send P K c))
  isplitl [HA]; · iexact HA
  isplitl [HO]; · iexact HO
  iintro ⟨HcS, HO⟩
  iapply (run_chunks c combStep (combPre P K c) (combPost P c) (fun _ => owing c []) (fun i _ => run_comb P K c i))
  isplitl [HC]; · iexact HC
  isplitl [HO]; · iexact HO
  iintro ⟨HC, HO⟩
  icombine HD HcS as H
  ihave H := (Entails.of_eq (each_pair _ _)) $$ H
  icombine H HC as H
  ihave H := (each_two (gather P K c)) $$ H
  icases H with ⟨HD, HE⟩
  iapply (run_chunks c drainStep (drainPre P K c) (drainPost P c) (fun _ => owing c []) (fun i _ => run_drain P K c i))
  isplitl [HD]; · iexact HD
  isplitl [HO]; · iexact HO
  iintro ⟨HD, HO⟩
  iapply HQ
  isplitl [HD]; · iexact HD
  isplitl [HE]; · iexact HE
  iexact HO

/-- The whole body: from what a device holds at its start to what it leaves. -/
theorem run_body (c : Dev nD) (Q : PUnit → sProp 𝕄) : iprop(bodyPre P K c ∗ (bodyPost P c -∗ Q ⟨⟩)) ⊢ run c steps Q := by
  refine BI.Entails.trans ?_ (Entails.of_eq (wp_deviceId ..).symm)
  show _ ⊢ run c (Prog.lift (.semSignal (Dev.tc (pr c)) barS 1) >>= fun _ => Prog.lift (.semWait barS 1) >>= fun _ =>
    (forAll (sendStep (pr c)) chunks >>= fun _ => forAll combStep chunks >>= fun _ => forAll drainStep chunks)) Q
  unfold bodyPre
  iintro ⟨⟨HB, HcB, Hlev, Hg, Hb, Hl, HO⟩, HQ⟩
  icombine Hg Hl as H
  ihave H := (each_two (open_landing P K c)) $$ H
  icases H with ⟨Hg, Hl⟩
  iapply (run_barrier P K c _ Q)
  isplitl [HB]; · iexact HB
  isplitl [HcB]; · iexact HcB
  isplitl [Hlev]; · iexact Hlev
  isplitl [Hl]; · iexact Hl
  isplitl [HO]; · iexact HO
  iintro ⟨HvB, Hl, HO⟩
  iapply (run_loops P K c Q)
  isplitl [Hg]; · iexact Hg
  isplitl [Hb]; · iexact Hb
  isplitl [Hl]; · iexact Hl
  isplitl [HO]; · iexact HO
  iintro ⟨HD, HE, HO⟩
  iapply HQ
  unfold bodyPost
  isplitl [HvB]; · iexact HvB
  isplitl [HD]; · iexact HD
  isplitl [HE]; · iexact HE
  iexact HO

end Cert.Exchange

end
-- ==== Proof.Region.lean ====
/-
  The region. Its one window stages the partial rows whole; the result is written by the body's own copies. Here the four
  buffers are cut into their chunks and joined again, the ghost state is opened at the entry, and the run of the body is
  put in the form the region rule takes.
-/
module

public import proofs.«01_k».proof.Proof.Body
public import proofs.«01_k».proof.Proof.Gen.KernelIdeal.Regions
public import proofs.«01_k».proof.Proof.Gen.KernelIdeal.Points
public import Idealize.ShloMosaic.Lib.Pipeline.FrameBody
public import Idealize.ShloMosaic.Lib.Pipeline.RegionArrays

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

/-! ## The buffers, whole and in chunks -/

section Cut

variable (c : Dev nD) (q : PosShare TreeShare)

/-- A buffer in pieces, by any eight rectangles that are disjoint and make it up. -/
theorem cut_ref (b : Ref sig .tc) (r : Fin 8 → Rect b.ty.shape) (hd : ∀ i j, i ≠ j → Disjoint (r i).set (r j).set)
    (hc : (Finset.univ : Finset (Fin 8)).biUnion (fun i => (r i).set) = Finset.univ) (f : Buf (Elt F) ((c : Thread nD τ).loc b)) :
    ((c : Thread nD τ).loc b ↦{q} f : sProp 𝕄) = each fun i => (c : Thread nD τ).loc b ↦[((View.whole b).slice (r i)).set]{q} f := by
  rw [Ring.pointsTo_blocks (ℓ := (c : Thread nD τ).loc b) (fun i => (r i).set) hd hc]
  exact bigSep_congr fun i _ => by rw [View.set_slice_whole]

/-- The array that is sent, cut into chunks. -/
theorem pb_cut (f : Buf (Elt F) ((c : Thread nD τ).loc cc0_stg0_0)) :
    ((c : Thread nD τ).loc cc0_stg0_0 ↦{q} f : sProp 𝕄) = each fun i => pbPt c q i f :=
  cut_ref c q cc0_stg0_0 rows rows_disjoint rows_cover f
/-- The landing array, cut into chunks. -/
theorem rcv_cut (f : Buf (Elt F) ((c : Thread nD τ).loc cc0_scratch1)) :
    ((c : Thread nD τ).loc cc0_scratch1 ↦{fullShare} f : sProp 𝕄) = each fun i => rcvPt c i f :=
  cut_ref c fullShare cc0_scratch1 rows rows_disjoint rows_cover f
/-- The array of sums, cut into chunks. -/
theorem acc_cut (f : Buf (Elt F) ((c : Thread nD τ).loc cc0_scratch0)) :
    ((c : Thread nD τ).loc cc0_scratch0 ↦{fullShare} f : sProp 𝕄) = each fun i => accPt c i f :=
  cut_ref c fullShare cc0_scratch0 rows rows_disjoint rows_cover f
/-- The result, cut into chunks. -/
theorem out_cut (f : Buf (Elt F) ((c : Thread nD τ).loc main_v18)) :
    ((c : Thread nD τ).loc main_v18 ↦{fullShare} f : sProp 𝕄) = each fun i => outPt c i f :=
  cut_ref c fullShare main_v18 rows rows_disjoint rows_cover f

/-- The own rows in chunks, each at the kept half and at the lent one. -/
theorem pb_deal (f : Buf (Elt F) ((c : Thread nD τ).loc cc0_stg0_0)) :
    ((c : Thread nD τ).loc cc0_stg0_0 ↦{fullShare} f : sProp 𝕄)
      = iprop(each (fun i => pbPt c kept i f) ∗ each (fun i => pbPt c lent i f)) := by
  rw [pb_cut, each_pair]
  refine bigSep_congr fun i _ => ?_
  have h : (pbPt c fullShare i f : sProp 𝕄) ⊣⊢ iprop(pbPt c kept i f ∗ pbPt c lent i f) :=
    pointsTo_share (PosShare.mem_left_op_right fullShare)
  exact h.1.antisymm h.2

end Cut

variable (m : (ℓ : Loc nD τ sig) → Buf (Elt F) ℓ)

/-- The partial rows each device computed before the call. -/
def part : Partials F := fun c => V7 m c main_v17

/-- What the call leaves: in the result, the sum; no other buffer of the program is changed. -/
def outs : Outs (F := F) := fun _ r c => Function.update (V7 m c) main_v18 (total (part m) c) r

/-- After the call the result holds the total. -/
theorem V8_result (c : Dev nD) : V8 m (outs m) c main_v18 = total (part m) c := by
  unfold V8 outs; rw [Function.update_self, Function.update_self]

/-! ## The region's own semaphores -/

/-- A device's own counters, semaphore array by semaphore array. -/
theorem ownSems_eq (c : Dev nD) : (Pipeline.ownSems0 osem c : sProp 𝕄)
    = iprop(each (fun i => semVal (sendCell c i) 0) ∗ each (fun i => semVal (recvCell c i) 0) ∗ each (fun i => semVal (outCell c i) 0)) := by
  unfold Pipeline.ownSems0
  rw [bigSep_univ_prod, show (Finset.univ : Finset (Fin 3)) = {0, 1, 2} from by decide, bigSep_insert (by decide),
    bigSep_insert (by decide), bigSep_singleton]
  rfl

variable (P : Partials F) (K : GSem nD τ sig → ℕ)

/-- The ghost state of a chunk as the launch makes it: the own three cells not yet open. -/
def dormant (c : Dev nD) (i : Fin 8) : sProp 𝕄 :=
  iprop((cellInv ER (rd P) (K (sendCell c i)) (sendCell c i) ∗ cellInv ER (rd P) (K (recvCell c i)) (recvCell c i)
      ∗ cellInv ER (rd P) (K (outCell c i)) (outCell c i) ∗ cellInv ER (rd P) (K (recvCell (pr c) i)) (recvCell (pr c) i))
    ∗ (openTok ER (sendCell c i) ∗ openTok ER (recvCell c i) ∗ openTok ER (outCell c i))
    ∗ dutyTok ER (sendCell c i) 0 () ∗ dutyTok ER (recvCell (pr c) i) 0 () ∗ dutyTok ER (outCell c i) 0 ())

/-- A chunk's three cells open, their counters being at zero. -/
theorem open_chunk (c : Dev nD) (i : Fin 8) :
    iprop(dormant P K c i ∗ semVal (sendCell c i) 0 ∗ semVal (recvCell c i) 0 ∗ semVal (outCell c i) 0)
      ⊢ (|={Set.univ}=> chunkGhost P K c i : sProp 𝕄) := by
  unfold dormant chunkGhost
  iintro ⟨⟨⟨#HIs, #HIr, #HIo, #HIp⟩, ⟨HoS, HoR, HoO⟩, Ht⟩, HvS, HvR, HvO⟩
  imod (Rounds.cell_open ER (rd P) (g := sendCell c i) (Set.mem_univ (K (sendCell c i)))) $$ [HoS HvS] with ⟨HatS, #HrS⟩
  · isplitr; · iexact HIs
    isplitl [HoS] <;> iassumption
  imod (Rounds.cell_open ER (rd P) (g := recvCell c i) (Set.mem_univ (K (recvCell c i)))) $$ [HoR HvR] with ⟨HatR, #HrR⟩
  · isplitr; · iexact HIr
    isplitl [HoR] <;> iassumption
  imod (Rounds.cell_open ER (rd P) (g := outCell c i) (Set.mem_univ (K (outCell c i)))) $$ [HoO HvO] with ⟨HatO, #HrO⟩
  · isplitr; · iexact HIo
    isplitl [HoO] <;> iassumption
  imodintro
  isplitr
  · isplitr; · iexact HIs
    isplitr; · iexact HIr
    isplitr; · iexact HIo
    iexact HIp
  isplitl [HatS HatR HatO]
  · isplitl [HatS]; · iexact HatS
    isplitl [HatR]; · iexact HatR
    iexact HatO
  isplitr
  · isplitr; · iexact HrS
    isplitr; · iexact HrR
    iexact HrO
  iexact Ht

/-! ## What comes in and goes out -/

/-- The credit for the partner's signal and for its chunks. -/
def credits (c : Dev nD) : sProp 𝕄 :=
  iprop(cred (tallyAt (barCell c) () 1) ∗ each fun i => cred (tallyAt (recvCell c i) () nIn))

/-- What the launch keeps for the region. -/
def Tk (c : Dev nD) : sProp 𝕄 := iprop((∃ K, barGhost P K c ∗ each (dormant P K c)) ∗ credits c)
/-- The same, its cells open. -/
def Xk (c : Dev nD) : sProp 𝕄 := iprop((∃ K, barGhost P K c ∗ each (chunkGhost P K c)) ∗ credits c ∗ levAts L lv)
/-- What is left of it: the barrier's counter, back at zero. -/
def Yk (c : Dev nD) : sProp 𝕄 := semVal (barCell c) 0

/-- On entering the call a device opens all the cells of its chunks. -/
theorem open_all (c : Dev nD) : iprop(Tk P c ∗ Pipeline.ownSems0 osem c ∗ levAts L lv) ⊢ (|={Set.univ}=> Xk P c : sProp 𝕄) := by
  rw [ownSems_eq, each_pair, each_pair]
  unfold Tk Xk
  iintro ⟨⟨⟨%K, Hb, Hd⟩, Hc⟩, Hs, #Hlev⟩
  ihave H := (Entails.of_eq (each_pair (dormant P K c)
    (fun i => iprop(semVal (sendCell c i) 0 ∗ semVal (recvCell c i) 0 ∗ semVal (outCell c i) 0)))) $$ [Hd Hs]
  · isplitl [Hd] <;> iassumption
  ihave H' := (each_mono (open_chunk P K c)) $$ H
  imod (bigSep_fupd Finset.univ (chunkGhost P K c)) $$ H' with H
  imodintro
  isplitl [Hb H]
  · iexists K
    isplitl [Hb] <;> iassumption
  isplitl [Hc]; · iexact Hc
  iexact Hlev

/-- The one buffer the body addresses outside its window and its scratch. -/
abbrev Hs : Finset (DevRef τ sig) := {Proc.devRef .tc main_v18}

/-- The array that the call writes, chunk by chunk. -/
theorem held_out (c : Dev nD) (W : Valuation τ sig (Elt F)) :
    (StableHlo.held (c : Thread nD τ) Hs W : sProp 𝕄) = each fun i => outPt c i (W main_v18) := by
  rw [← out_cut]; unfold StableHlo.held; rw [bigSep_singleton]

/-- Before the body. -/
def enter (c : Dev nD) : sProp 𝕄 :=
  iprop(Pipeline.scopedRest spec0 c ∗ (∃ r, prngReg c r) ∗ StableHlo.held (c : Thread nD τ) Hs (V7 m c) ∗ Xk (part m) c)
/-- After it. -/
def leave (c : Dev nD) : sProp 𝕄 :=
  iprop(Pipeline.scopedRest spec0 c ∗ (∃ r, prngReg c r) ∗ StableHlo.held (c : Thread nD τ) Hs (V8 m (outs m) c)
    ∗ Pipeline.ownSems0 osem c ∗ Yk c)

/-- The array of sums in chunks, contents forgotten. -/
theorem each_acc (c : Dev nD) (f : Buf (Elt F) ((c : Thread nD τ).loc cc0_scratch0)) :
    ((c : Thread nD τ).loc cc0_scratch0 ↦{fullShare} f : sProp 𝕄) ⊢ each fun i => iprop(∃ f, accPt c i f) := by
  rw [acc_cut]; exact each_mono fun i => by iintro H; iexists f; iexact H
/-- The result in chunks, contents forgotten. -/
theorem each_out (c : Dev nD) (W : Valuation τ sig (Elt F)) :
    (StableHlo.held (c : Thread nD τ) Hs W : sProp 𝕄) ⊢ each fun i => iprop(∃ f, outPt c i f) := by
  rw [held_out]; exact each_mono fun i => by iintro H; iexists (W main_v18); iexact H
/-- The landing array in chunks, contents forgotten. -/
theorem each_landing (c : Dev nD) (f : Buf (Elt F) ((c : Thread nD τ).loc cc0_scratch1)) :
    ((c : Thread nD τ).loc cc0_scratch1 ↦{fullShare} f : sProp 𝕄) ⊢ each (landing c) := by
  rw [rcv_cut]; exact each_mono fun i => by unfold landing; iintro H; iexists f; iexact H

/-- The chunks' buffers at the start, buffer by buffer. -/
theorem chunkBufs_eq (c : Dev nD) : (each (chunkBufs P c) : sProp 𝕄)
    = iprop(each (fun i => cred (tallyAt (recvCell c i) () nIn)) ∗ each (fun i => pbPt c kept i (P c)) ∗ each (fun i => pbPt c lent i (P c))
      ∗ each (fun i => iprop(∃ f, accPt c i f)) ∗ each (fun i => iprop(∃ f, outPt c i f))) := by
  rw [each_pair, each_pair, each_pair, each_pair]; rfl
/-- What the last waits leave, buffer by buffer. -/
theorem drained_eq (c : Dev nD) : (each (drainPost P c) : sProp 𝕄)
    = iprop(each (fun i => semVal (outCell c i) 0) ∗ each (fun i => semVal (sendCell c i) 0) ∗ each (fun i => outPt c i (total P c))
      ∗ each (fun i => accPt c i (total P c)) ∗ each (fun i => pbPt c lent i (P c))) := by
  rw [each_pair, each_pair, each_pair, each_pair]; rfl
/-- What the additions leave, buffer by buffer. -/
theorem added_eq (c : Dev nD) : (each (added P c) : sProp 𝕄)
    = iprop(each (fun i => semVal (recvCell c i) 0) ∗ each (fun i => rcvPt c i (P (pr c))) ∗ each (fun i => pbPt c kept i (P c))) := by
  rw [each_pair, each_pair]; rfl

/-- What the call gives its body is what the body starts with. -/
theorem start_body (c : Dev nD) :
    iprop(enter m c ∗ ((c : Thread nD τ).loc cc0_stg0_0 ↦{fullShare} (part m c)) ∗ ∃ W, owes (c : Thread nD τ) (O₀ c) W)
      ⊢ iprop((∃ r, prngReg c r) ∗ ∃ K, bodyPre (part m) K c) := by
  unfold enter Xk credits bodyPre
  rw [scopedRest0_eq, pb_deal]
  iintro ⟨⟨⟨⟨%fa, Ha⟩, ⟨%fr, Hr⟩⟩, Hp, Hh, ⟨%K, Hb, Hg⟩, ⟨HcB, HcR⟩, #Hlev⟩, ⟨Hk, Hl⟩, HO⟩
  isplitl [Hp]; · iexact Hp
  iexists K
  isplitl [Hb]; · iexact Hb
  isplitl [HcB]; · iexact HcB
  isplitr; · iexact Hlev
  isplitl [Hg]; · iexact Hg
  isplitl [HcR Hk Hl Ha Hh]
  · rw [chunkBufs_eq]
    isplitl [HcR]; · iexact HcR
    isplitl [Hk]; · iexact Hk
    isplitl [Hl]; · iexact Hl
    isplitl [Ha]; · iapply (each_acc c fa); iexact Ha
    iapply (each_out c (V7 m c)); iexact Hh
  isplitl [Hr]; · iapply (each_landing c fr); iexact Hr
  iexact HO

/-- What the body leaves is what the call takes back. -/
theorem end_body (c : Dev nD) :
    iprop((∃ r, prngReg c r) ∗ bodyPost (part m) c)
      ⊢ iprop(leave m c ∗ ((c : Thread nD τ).loc cc0_stg0_0 ↦{fullShare} (part m c)) ∗ ∃ W, owes (c : Thread nD τ) 0 W) := by
  unfold leave Yk bodyPost owing owed
  rw [scopedRest0_eq, pb_deal, ownSems_eq, held_out, V8_result, drained_eq, added_eq]
  iintro ⟨Hp, Hb, ⟨HvO, HvS, Ho, Ha, Hl⟩, ⟨HvR, Hr, Hk⟩, HO⟩
  isplitr [Hk Hl HO]
  · isplitl [Ha Hr]
    · isplitl [Ha]
      · iexists (total (part m) c); rw [acc_cut]; iexact Ha
      · iexists (part m (pr c)); rw [rcv_cut]; iexact Hr
    isplitl [Hp]; · iexact Hp
    isplitl [Ho]; · iexact Ho
    isplitl [HvS HvR HvO]
    · isplitl [HvS]; · iexact HvS
      isplitl [HvR]; · iexact HvR
      iexact HvO
    iexact Hb
  isplitl [Hk Hl]
  · isplitl [Hk] <;> iassumption
  iexact HO

/-! ## The region's proof data -/

/-- The window stages the partial rows and keeps them; the core owes its signal and its chunks before the one point. -/
def dat (c : Dev nD) : Dat τ (Elt F) Unit ℕ UU ℕ cfg0 c where
  A w := V7 m c (Proc.devRef .tc (Pipeline.arrRef spec0 w))
  after := fun
    | 0, _ => part m c
    | ⟨_ + 1, h⟩, _ => absurd h (Nat.not_lt.2 (Nat.le_add_left _ _))
  Φ t := if t.val = 0 then enter m c else leave m c
  q _ := fullShare
  owed t := if t.val = 0 then O₀ c else 0

/-- What the body finds in the window is the array whole. -/
theorem staged (c : Dev nD) (D : Dat τ (Elt F) Unit ℕ UU ℕ cfg0 c) (d) :
    D.before 0 t0_0 d = (D.A 0 : Vec F S512x512 .bf16) := by
  rw [D.before_fetched 0 t0_0 (fetch0_0 t0_0) d]
  unfold Dat.fetched Dat.blockOf
  funext j
  have hm : (cfg0.win 0).moved (cfg0.grid.coords t0_0) j = true := ((cfg0.win 0).moved_iff _ j).mpr fun a => (j a).isLt
  unfold Pipeline.Window.fill
  rw [dif_pos hm]
  show D.A 0 (((cfg0.win 0).rect t0_0).emb _) = D.A 0 j
  refine congrArg (D.A 0) (funext fun a => Fin.ext ?_)
  exact Pipeline.Window.rect_emb_val_of_index_zero (cfg0.win 0) t0_0 a rfl _

/-- A device enters the call's one step owing everything. -/
theorem owed_first (c : Dev nD) : (dat m c).owed 0 = O₀ c := by
  show (if (0 : Fin (cfg0.N + 1)).val = 0 then O₀ c else 0) = O₀ c; exact if_pos rfl
/-- It leaves it owing nothing. -/
theorem owed_last (c : Dev nD) : (dat m c).owed (Fin.last _) = 0 := by
  show (if (Fin.last cfg0.N).val = 0 then O₀ c else 0) = 0
  rw [Fin.val_last, if_neg (by rw [show cfg0.N = 1 from N_0]; decide)]

/-- The call's record of what is owed, read before a step. -/
theorem owes_in (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, H⟩; iexists W; iexact H
/-- The same, written after it. -/
theorem owes_out (c : Dev nD) (t : Fin (cfg0.N + 1)) (O : CellTallies nD τ sig Unit) (h : (dat m c).owed t = O) :
    iprop(∃ W, owes (c : Thread nD τ) O W) ⊢ ((dat m c).owesAt () t : sProp 𝕄) := by
  unfold Dat.owesAt Pipeline.owesWithin Dat.bound; rw [h]
  iintro ⟨%W, H⟩; iexists W
  isplitr; · ipureintro; exact fun _ _ => Or.inl trivial
  iexact H

/-- Before the body the staged input holds the device's part. -/
theorem staged_owns (c : Dev nD) : iprop(∃ d, owns (c : Thread nD τ) ((cfg0.win 0).stage (cfg0.slots t0_0 0)) fullShare ((dat m c).before 0 t0_0 d))
    ⊢ ((c : Thread nD τ).loc cc0_stg0_0 ↦{fullShare} (part m c) : sProp 𝕄) := by
  iintro ⟨%d, H⟩
  rw [staged]
  iapply (Entails.of_eq (owns_whole (c : Thread nD τ) cc0_stg0_0 fullShare (part m c))); iexact H
/-- After the body it still does. -/
theorem owns_staged (c : Dev nD) : ((c : Thread nD τ).loc cc0_stg0_0 ↦{fullShare} (part m c) : sProp 𝕄)
    ⊢ owns (c : Thread nD τ) ((cfg0.win 0).stage (cfg0.slots t0_0 0)) fullShare ((dat m c).after 0 t0_0) :=
  Entails.of_eq (owns_whole (c : Thread nD τ) cc0_stg0_0 fullShare (part m c)).symm

/-- The body at the one point. -/
theorem run_point (c : Dev nD) :
    iprop(enter m c ∗ (dat m c).owesAt () (Fin.castSucc t0_0)
        ∗ ∃ d, owns (c : Thread nD τ) ((cfg0.win 0).stage (cfg0.slots t0_0 0)) fullShare ((dat m c).before 0 t0_0 d))
      ⊢ run c (steps (F := F)) fun _ => iprop(leave m c ∗ (dat m c).owesAt () (Fin.succ t0_0)
        ∗ owns (c : Thread nD τ) ((cfg0.win 0).stage (cfg0.slots t0_0 0)) fullShare ((dat m c).after 0 t0_0)) := by
  iintro ⟨He, HO, Hw⟩
  ihave H := (start_body m c) $$ [He HO Hw]
  · isplitl [He]; · iexact He
    isplitl [Hw]; · iapply (staged_owns m c); iexact Hw
    iapply (owes_in m c _ (O₀ c) (owed_first m c)); iexact HO
  icases H with ⟨Hp, %K, Hb⟩
  iapply (run_body (part m) K c _)
  isplitl [Hb]; · iexact Hb
  iintro Hb
  ihave H := (end_body m c) $$ [Hp Hb]
  · isplitl [Hp] <;> iassumption
  icases H with ⟨Hl, Hw, HO⟩
  isplitl [Hl]; · iexact Hl
  isplitl [HO]; · iapply (owes_out m c _ 0 (owed_last m c)); iexact HO
  iapply (owns_staged m c); iexact Hw

/-- What the call asks of its body. -/
theorem body_obligation (c : Dev nD) : BodyObligation (dat m c) (defs₀ (F := F)) 𝒱₀ () Set.univ := fun t => by
  obtain rfl := fin_N0 t
  rw [bigSep_W0, bigSep_W0]
  rw [show (dat m c).Φ (Fin.castSucc t0_0) = enter m c from rfl, show (dat m c).Φ (Fin.succ t0_0) = leave m c from rfl]
  show _ ⊢ run c (bodyAt0 (F := F) t0_0) _
  rw [body_steps]
  exact run_point m c

/-! ## The region's record -/

/-- The call's data, for the launch. -/
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

/-- The facts that the launch asks of the call. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Whatever is owed is owed above the staging cell. -/
theorem cut_owed (c : Dev nD) (t : Fin ((Pipeline.pin (pcfgs (F := F)) adm 0).N + 1)) (g : GSem nD τ sig) (u : Unit)
    (h : 0 < (pdats m 0 c).owed t g u) : u ∈ L g ∧ (0 : ℕ) < lv g u := by
  have e : (pdats m 0 c).owed t = if t.val = 0 then O₀ c else 0 := rfl
  rw [e] at h
  split at h
  · rcases O₀_pos h with ⟨i, rfl⟩ | rfl
    · exact ⟨L_mem _ _ _, by rw [lv_recv]; decide⟩
    · exact ⟨L_mem _ _ _, Nat.one_pos⟩
  · exact absurd h (Nat.lt_irrefl 0)

/-- The staging semaphore lies lowest. -/
theorem lv_stage (c : Dev nD) (w : Fin 1) (s : Fin (win0 w).nbuf) : lv ((c : Thread nD τ), .dma ((win0 w).sem s)) () = 0 :=
  if_neg (by revert w s; decide)

/-- The buffers of the program that are not the window's. -/
abbrev Sr : Finset (DevRef τ sig) := Pipeline.ucRefs τ sig \ Pipeline.arrRefs (τ := τ) spec0

/-- The call's written array is among the program's buffers. -/
theorem Hs_sub : Hs ⊆ Sr := by
  intro b hb
  rw [Finset.mem_singleton.mp hb]
  refine Finset.mem_sdiff.mpr ⟨Finset.mem_filter.mpr ⟨StableHlo.devRef_mem_tcRefs main_v18, by decide⟩, by decide⟩

/-- Of the buffers the call changes the result alone. -/
theorem V8_rest (c : Dev nD) (b : DevRef τ sig) (hb : b ≠ Proc.devRef .tc main_v18) : V8 m (outs m) c b = V7 m c b :=
  Function.update_of_ne hb _ _

/-- The staged input's array is not written. -/
theorem arr_kept (c : Dev nD) (w : Fin 1) (n : ℕ) :
    (dat m c).arrAt w n = V7 m c (Proc.devRef .tc (Pipeline.arrRef spec0 w)) :=
  (dat m c).arrAt_in w (by revert w; decide) n

/-- The staged input is not the result. -/
theorem arr_ne : ∀ w : Fin 1, (Proc.devRef .tc (Pipeline.arrRef spec0 w) : DevRef τ sig) ≠ Proc.devRef .tc main_v18 := by decide

set_option backward.isDefEq.respectTransparency.types false in
/-- The region, entered from the program's buffers and what the launch kept for it, left with the result written. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    Hs Sr Hs_sub kit rfl (fun c => (body_obligation m c).loose)
    (fun _ => 0) O₀ (fun c => (owed_first m c).trans (zero_add _).symm) (owed_last m) (fun _ => rfl) (fun _ _ => ite_self _)
    (V7 m) (V8 m (outs m)) (fun c b hb => V8_rest m c b fun h => (Finset.mem_sdiff.mp hb).2 (Finset.mem_singleton.mpr h))
    (Tk (part m)) Yk (Xk (part m)) Yk (open_all (part m)) (fun _ => BI.Entails.refl _) (fun _ => BI.Entails.refl _)
    (fun c => by iintro H; imodintro; iexact H)
    (fun _ => 0)
    ⟨fun c w s => L_mem c _ _, fun c w s => (lv_stage c w s).le, fun c t g u h => cut_owed m c t g u h⟩
    (fun _ => iprop(emp))
    (fun c w => arr_kept m c w 0)
    (fun c w => (arr_kept m c w _).trans (V8_rest m c _ (arr_ne w)).symm)

/-- What rides beside the program's buffers, up to the region and after it. -/
def E : Fin 2 → Dev nD → sProp 𝕄 := fun
  | 0 => fun c => iprop(Tk (part m) c ∗ (∃ r, prngReg c r) ∗ ∃ W, owes (c : Thread nD τ) (O₀ c) W)
  | 1 => fun c => iprop(Yk c ∗ ∃ W, owes (c : Thread nD τ) 0 W)

/-- The staged input is among the program's buffers. -/
theorem arr_sub : Pipeline.arrRefs (τ := τ) spec0 ⊆ Pipeline.ucRefs τ sig :=
  Pipeline.arrRefs_sub_ucRefs spec0 (by decide)

/-- What the host operations leave is what the call takes. -/
theorem reg_pre (c : Dev nD) : iprop(StableHlo.held (c : Thread nD τ) (Pipeline.ucRefs τ sig) (V7 m c) ∗ E m 0 c) ⊢ (reg m).pre c := by
  show _ ⊢ iprop(StableHlo.held (c.tc : Thread nD τ) (Pipeline.arrRefs (τ := τ) spec0) (V7 m c) ∗ (∃ r, prngReg c r)
    ∗ (StableHlo.held (c.tc : Thread nD τ) Sr (V7 m c) ∗ emp) ∗ Tk (part m) c ∗ ∃ Wd, owes (c : Thread nD τ) (0 + O₀ c) Wd)
  rw [zero_add, StableHlo.held_sub_split (c.tc : Thread nD τ) arr_sub (V7 m c)]
  unfold E
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What the call leaves, as the program's end. -/
theorem reg_post (c : Dev nD) :
    (reg m).post c ⊢ iprop(StableHlo.held (c : Thread nD τ) (Pipeline.ucRefs τ sig) (V8 m (outs m) c) ∗ E m 1 c) := by
  show iprop(StableHlo.held (c.tc : Thread nD τ) (Pipeline.arrRefs (τ := τ) spec0) (V8 m (outs m) c) ∗ (∃ r, prngReg c r)
    ∗ (StableHlo.held (c.tc : Thread nD τ) Sr (V8 m (outs m) c) ∗ emp) ∗ Yk c ∗ ∃ Wd, owes (c : Thread nD τ) 0 Wd) ⊢ _
  rw [StableHlo.held_sub_split (c.tc : Thread nD τ) arr_sub (V8 m (outs m) c)]
  unfold E
  iintro ⟨Ha, -, ⟨Hr, -⟩, HY, HO⟩
  isplitl [Ha Hr]
  · isplitl [Ha] <;> iassumption
  isplitl [HY]; · iexact HY
  iexact HO

end Cert.Exchange

end
-- ==== Proof.Launch.lean ====
/-
  The launch and the run of the whole program: every cell's invariant is made at the start, the barrier's open and the
  transfer semaphores' still closed, the tokens of what a device pays its partner are handed over, and the host's
  operations and the region follow one another.
-/
module

public import proofs.«01_k».proof.Proof.Region

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The cells at the launch -/

/-- The call's own semaphores are all different. -/
theorem osem_inj : Function.Injective osem := by decide
/-- None of them is the barrier's. -/
theorem osem_ne_bar : ∀ k, osem k ≠ .reg barS := by decide

/-- The barrier's cell of each device; a device's own cells; the receive semaphores. -/
def barEmb : Dev nD ↪ GSem nD τ sig := ⟨barCell, fun _ _ h => congrArg (fun g : GSem nD τ sig => g.1.1) h⟩
def ownEmb : Dev nD × (Fin 3 × Fin 8) ↪ GSem nD τ sig :=
  ⟨fun x => ((x.1 : Thread nD τ), osem x.2), fun _ _ h =>
    Prod.ext (congrArg (fun g : GSem nD τ sig => g.1.1) h) (osem_inj (congrArg Prod.snd h))⟩
def recvEmb : Fin 8 ↪ SemLoc sig := ⟨fun i => .dma (recvS i), fun i j h => recvS_inj (by injection h)⟩

/-- The barriers' cells; the cells of the call's own semaphores; a token for the one duty of each. -/
abbrev barCells : Finset (GSem nD τ sig) := Finset.univ.map barEmb
abbrev ownCells : Finset (GSem nD τ sig) := Finset.univ.map ownEmb
/-- One duty in round 0 of every cell. -/
def duties : Finset (GSem nD τ sig × ℕ × Unit) :=
  (barCells ∪ ownCells).map ⟨fun g => (g, 0, ()), fun _ _ h => congrArg Prod.fst h⟩

/-- No barrier cell is among the own cells. -/
theorem cells_disjoint : Disjoint (barCells : Finset (GSem nD τ sig)) ownCells := by
  rw [Finset.disjoint_left]
  intro g h h'
  obtain ⟨c, -, rfl⟩ := Finset.mem_map.mp h
  obtain ⟨x, -, e⟩ := Finset.mem_map.mp h'
  exact osem_ne_bar x.2 (congrArg Prod.snd e)

/-- Every barrier cell is a cell of the exchange. -/
theorem bar_mem (c : Dev nD) : barCell c ∈ (barCells ∪ ownCells : Finset (GSem nD τ sig)) :=
  Finset.mem_union_left _ (Finset.mem_map_of_mem barEmb (Finset.mem_univ c))
/-- So is every own cell. -/
theorem own_mem (c : Dev nD) (k : Fin 3 × Fin 8) : ((c : Thread nD τ), osem k) ∈ (barCells ∪ ownCells : Finset (GSem nD τ sig)) :=
  Finset.mem_union_right _ (Finset.mem_map_of_mem ownEmb (Finset.mem_univ (c, k)))

/-- A family over the barriers, device by device. -/
theorem over_bar (Φ : GSem nD τ sig → sProp 𝕄) : bigSep barCells Φ = bigSep Finset.univ fun c => Φ (barCell c) := bigSep_map barEmb

/-- A family over the own cells, device by device and array by array. -/
theorem over_own (Φ : GSem nD τ sig → sProp 𝕄) : bigSep ownCells Φ = bigSep Finset.univ fun c =>
    iprop(each (fun i => Φ (sendCell c i)) ∗ each (fun i => Φ (recvCell c i)) ∗ each (fun i => Φ (outCell c i))) := by
  rw [bigSep_map, bigSep_univ_prod]
  refine bigSep_congr fun c _ => ?_
  rw [bigSep_univ_prod, show (Finset.univ : Finset (Fin 3)) = {0, 1, 2} from by decide, bigSep_insert (by decide),
    bigSep_insert (by decide), bigSep_singleton]
  rfl

/-! ## What each device is owed -/

/-- The device that pays a receive cell is its owner's partner. -/
theorem dev_of_recv {d c : Dev nD} {i j : Fin 8} (h : recvCell c i = recvCell (pr d) j) : d = pr c := by
  rw [(recvCell_inj h).1, pr_pr]

/-- What a device owes to a receive cell for the chunks of a list. -/
theorem owed_recv (d c : Dev nD) (i : Fin 8) : ∀ l : List (Fin 8), l.Nodup →
    owed d l (recvCell c i) () = if d = pr c ∧ i ∈ l then nIn else 0
  | [], _ => by rw [if_neg fun h => List.not_mem_nil h.2]; rfl
  | j :: l, hl => by
    obtain ⟨hj, hl⟩ := List.nodup_cons.mp hl
    unfold owed
    rw [Pi.add_apply, Finsupp.add_apply, owed_recv d c i l hl, tallyAt_apply]
    by_cases h : recvCell c i = recvCell (pr d) j
    · have hd := dev_of_recv h
      obtain ⟨-, rfl⟩ := recvCell_inj h
      rw [if_neg fun x => hj x.2, if_pos ⟨h, rfl⟩, if_pos ⟨hd, List.mem_cons_self⟩, Nat.zero_add]
    · rw [if_neg (show ¬(recvCell c i = recvCell (pr d) j ∧ () = ()) from fun x => h x.1), Nat.add_zero]
      refine if_congr (and_congr_right fun hd => ?_) rfl rfl
      refine ⟨List.mem_cons_of_mem j, fun hm => (List.mem_cons.mp hm).resolve_left fun e => h ?_⟩
      rw [hd, pr_pr, e]

/-- What a device owes to a receive cell at the start. -/
theorem due_recv (d c : Dev nD) (i : Fin 8) : O₀ d (recvCell c i) () = if d = pr c then nIn else 0 := by
  unfold O₀
  rw [Pi.add_apply, Finsupp.add_apply, owed_recv d c i chunks chunks_nodup, tallyAt_ne_cell (fun h => recv_ne_bar i (congrArg Prod.snd h)),
    Finsupp.zero_apply, Nat.add_zero]
  exact if_congr (and_iff_left (by revert i; decide)) rfl rfl

/-- What a device owes to a barrier cell at the start. -/
theorem due_bar (d c : Dev nD) : O₀ d (barCell c) () = if d = pr c then 1 else 0 := by
  have h0 : owed d chunks (barCell c) () = 0 := by
    refine Nat.eq_zero_of_not_pos fun h => ?_
    obtain ⟨i, e⟩ := owed_pos h
    exact recv_ne_bar i (congrArg Prod.snd e).symm
  unfold O₀
  rw [Pi.add_apply, Finsupp.add_apply, h0, Nat.zero_add, tallyAt_apply]
  refine if_congr ⟨fun h => ?_, fun h => ?_⟩ rfl rfl
  · rw [show c = pr d from congrArg (fun g : GSem nD τ sig => g.1.1) h.1, pr_pr]
  · rw [h, pr_pr]; exact ⟨rfl, rfl⟩

/-- A cell to which one device owes `n` and no other owes has a credit of `n` at the launch. -/
theorem launch_one (g : GSem nD τ sig) (p : Dev nD) (n : ℕ) (h : ∀ d, O₀ d g () = if d = p then n else 0) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => h d,
    Finset.sum_ite_eq' Finset.univ p fun _ => n, if_pos (Finset.mem_univ _)]

/-- The launch gives each device the credit of its barrier and of its receive cells. -/
theorem launch_credits (c : Dev nD) : (Pipeline.launchCred O₀ c : sProp 𝕄) ⊢ credits c := by
  unfold Pipeline.launchCred credits
  rw [bigSep_univ_at _ (SemLoc.reg barS), launch_one (barCell c) (pr c) 1 fun d => due_bar d c]
  refine sep_mono_right ?_
  have hs : Finset.univ.map recvEmb ⊆ Finset.univ.erase (SemLoc.reg barS : SemLoc sig) := fun sm hsm => by
    obtain ⟨i, -, rfl⟩ := Finset.mem_map.mp hsm
    exact Finset.mem_erase.mpr ⟨recv_ne_bar i, Finset.mem_univ _⟩
  refine (show _ ⊢ _ from bigSep_subset hs).trans ?_
  rw [bigSep_map]
  exact each_mono fun i => Entails.of_eq (congrArg cred (launch_one (recvCell c i) (pr c) nIn fun d => due_recv d c i))

/-! ## What each device is dealt -/

variable (P : Partials F) (κ : GSem nD τ sig → ℕ)

/-- What every device may consult: all the invariants, and that every barrier's round has begun. -/
def records : sProp 𝕄 :=
  iprop((bigSep (barCells ∪ ownCells) fun g => cellInv ER (rd P) (κ g) g) ∗ bigSep barCells fun g => reached ER g 0)

instance : BI.Persistent (records P κ) := by unfold records; infer_instance

/-- The records hold the invariant of every cell. -/
theorem records_inv {g : GSem nD τ sig} (hg : g ∈ (barCells ∪ ownCells : Finset (GSem nD τ sig))) :
    records P κ ⊢ cellInv ER (rd P) (κ g) g := by
  unfold records; iintro ⟨H, -⟩;
  iapply (show (bigSep (barCells ∪ ownCells) fun g => cellInv ER (rd P) (κ g) g : sProp 𝕄) ⊢ cellInv ER (rd P) (κ g) g from bigSep_elim hg)
  iexact H
/-- They say that every barrier's round has begun. -/
theorem records_reached (c : Dev nD) : records P κ ⊢ reached ER (barCell c) 0 := by
  unfold records; iintro ⟨-, H⟩
  iapply (show (bigSep barCells fun g => reached ER g 0 : sProp 𝕄) ⊢ reached ER (barCell c) 0 from
    bigSep_elim (Finset.mem_map_of_mem barEmb (Finset.mem_univ c)))
  iexact H

/-- The rights to open the cells of a chunk, and the tokens of what its device pays. -/
def chunkToks (c : Dev nD) (i : Fin 8) : sProp 𝕄 :=
  iprop((openTok ER (sendCell c i) ∗ openTok ER (recvCell c i) ∗ openTok ER (outCell c i))
    ∗ dutyTok ER (sendCell c i) 0 () ∗ dutyTok ER (recvCell (pr c) i) 0 () ∗ dutyTok ER (outCell c i) 0 ())

/-- The records and a chunk's tokens are what the chunk's cells need before they are opened. -/
theorem dormant_intro (c : Dev nD) (i : Fin 8) : iprop(records P κ ∗ chunkToks c i) ⊢ dormant P κ c i := by
  unfold chunkToks dormant
  iintro ⟨#HR, Ho, Ht⟩
  isplitr
  · isplitr; · iapply (records_inv P κ (own_mem c (0, i))); iexact HR
    isplitr; · iapply (records_inv P κ (own_mem c (1, i))); iexact HR
    isplitr; · iapply (records_inv P κ (own_mem c (2, i))); iexact HR
    iapply (records_inv P κ (own_mem (pr c) (1, i))); iexact HR
  isplitl [Ho] <;> iassumption

/-- What a device holds alone at the start. -/
def dealt (c : Dev nD) : sProp 𝕄 :=
  iprop((atPos ER (barCell c) 0 ∅ 0 ∗ dutyTok ER (barCell (pr c)) 0 ()) ∗ each (chunkToks c))

/-- The records and what a device is dealt are all of its ghost state. -/
theorem ghost_intro (c : Dev nD) : iprop(records P κ ∗ dealt c) ⊢ iprop(∃ K, barGhost P K c ∗ each (dormant P K c)) := by
  unfold dealt barGhost
  iintro ⟨#HR, ⟨Ha, Ht⟩, Hc⟩
  iexists κ
  isplitl [Ha Ht]
  · isplitr
    · isplitr; · iapply (records_inv P κ (bar_mem c)); iexact HR
      iapply (records_inv P κ (bar_mem (pr c))); iexact HR
    isplitl [Ha]; · iexact Ha
    isplitr; · iapply (records_reached P κ (pr c)); iexact HR
    iexact Ht
  iapply (bigSep_with_persistent (R := records P κ) (Φ := chunkToks c) fun i _ => dormant_intro P κ c i)
  isplitr; · iexact HR
  iexact Hc

/-- A device's tokens, semaphore array by semaphore array. -/
theorem chunkToks_eq (c : Dev nD) : (each (chunkToks c) : sProp 𝕄)
    = iprop((each (fun i => openTok ER (sendCell c i)) ∗ each (fun i => openTok ER (recvCell c i)) ∗ each (fun i => openTok ER (outCell c i)))
      ∗ each (fun i => dutyTok ER (sendCell c i) 0 ()) ∗ each (fun i => dutyTok ER (recvCell (pr c) i) 0 ()) ∗ each (fun i => dutyTok ER (outCell c i) 0 ())) := by
  rw [each_pair, each_pair, each_pair, each_pair, each_pair]; rfl

/-- The tokens, as they come from the launch. -/
theorem duties_eq : (bigSep duties (fun x => dutyTok ER x.1 x.2.1 x.2.2) : sProp 𝕄)
    = iprop((bigSep Finset.univ fun c => dutyTok ER (barCell c) 0 ()) ∗ bigSep Finset.univ fun c =>
      iprop(each (fun i => dutyTok ER (sendCell c i) 0 ()) ∗ each (fun i => dutyTok ER (recvCell c i) 0 ()) ∗ each (fun i => dutyTok ER (outCell c i) 0 ()))) := by
  unfold duties
  rw [bigSep_map, bigSep_union cells_disjoint]
  exact congrArg₂ _ (over_bar fun g => dutyTok ER g 0 ()) (over_own fun g => dutyTok ER g 0 ())

/-- Everything a device holds alone, from what the launch makes: the barriers' tokens and the receive cells' go to the partner. -/
theorem deal_all :
    iprop((bigSep barCells fun g => atPos ER g 0 ∅ 0) ∗ (bigSep ownCells fun g => openTok ER g)
        ∗ bigSep duties fun x => dutyTok ER x.1 x.2.1 x.2.2)
      ⊢ (bigSep Finset.univ dealt : sProp 𝕄) := by
  unfold dealt
  rw [duties_eq, over_bar, over_own]
  simp only [chunkToks_eq, bigSep_sep']
  rw [bigSep_univ_equiv pairing (fun c => (dutyTok ER (barCell c) 0 () : sProp 𝕄)),
    bigSep_univ_equiv pairing (fun c => (each (fun i => dutyTok ER (recvCell c i) 0 ()) : sProp 𝕄))]
  iintro ⟨Ha, Ho, Hb, Ht⟩
  isplitl [Ha Hb]
  · isplitl [Ha]; · iexact Ha
    iexact Hb
  isplitl [Ho]; · iexact Ho
  iexact Ht

/-! ## The run -/

variable (m : (ℓ : Loc nD τ sig) → Buf (Elt F) ℓ) (ρ : Dev nD → PrngReg)

/-- What the launch hands over, kept on one device until it is dealt. -/
def seed : sProp 𝕄 := BI.own (ER (launchOf barCells ownCells duties))
/-- The launch's ghost state, all of it handed to device 0 first. -/
def G (c : Dev nD) : sProp 𝕄 := if c = 0 then seed else iprop(emp)

/-- Over all devices that is the ghost state once. -/
theorem G_all : bigSep Finset.univ G = (seed : sProp 𝕄) := by
  rw [bigSep_univ_at _ (0 : Dev nD), bigSep_congr (Φ := G) (Ψ := fun _ => (BI.emp : sProp 𝕄)) fun c hc => if_neg (Finset.ne_of_mem_erase hc),
    BI.bigSep_emp_const]
  exact BI.equiv_iff.mp sep_emp

/-- The ghost state with which the run starts. -/
def u₀ : UU :=
  (initOf (Pipeline.cells cfgs cellOf_inj) (Pipeline.launchToks cfgs cellOf_inj), launchOf barCells ownCells duties)

/-- Outside the call a device's only semaphore is its barrier. -/
theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

/-- The same, as a statement on semaphores. -/
theorem unscoped_eq : ∀ sm : SemLoc sig, sm.isScoped .tc = false → sm = .reg barS := by decide

/-- What of a device's holdings at the start is no ghost state. -/
def rest (c : Dev nD) : sProp 𝕄 :=
  iprop(StableHlo.held (c : Thread nD τ) (Pipeline.ucRefs τ sig) (V0 m c) ∗ credits c ∗ owes (c : Thread nD τ) (O₀ c) ∅ ∗ ∃ r, prngReg c r)

/-- A device at the start of the program. -/
abbrev T₀ (c : Dev nD) : sProp 𝕄 := iprop(StableHlo.held (c : Thread nD τ) (Pipeline.ucRefs τ sig) (V0 m c) ∗ E m 0 c)
/-- And at its end. -/
abbrev Tₙ (c : Dev nD) : sProp 𝕄 :=
  iprop(StableHlo.held (c : Thread nD τ) (Pipeline.ucRefs τ sig) (V8 m (outs m) c) ∗ semVal (barCell c) 0)

/-- The records, what a device is dealt and its memory are what it starts the program with. -/
theorem T₀_intro (c : Dev nD) : iprop(records (part m) κ ∗ (dealt c ∗ rest m c)) ⊢ T₀ m c := by
  unfold rest T₀ E Tk
  iintro ⟨#HR, Hd, Hh, Hc, HO, Hp⟩
  isplitl [Hh]; · iexact Hh
  isplitl [Hd Hc]
  · isplitl [Hd]
    · iapply (ghost_intro (part m) κ c)
      isplitr; · iexact HR
      iexact Hd
    iexact Hc
  isplitl [Hp]; · iexact Hp
  iexists ∅; iexact HO

/-- What the launch gives a device, sorted. -/
theorem at_launch (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(rest m c ∗ (semVal (barCell c) 0 ∗ G c)) : sProp 𝕄) := by
  unfold rest
  rw [← Pipeline.unscopedBufs_held c (V0 m c), unscoped_bar]
  iintro ⟨Hb, Hs, HO, Hc, Hp, HG⟩
  isplitr [Hs HG]
  · isplitl [Hb]; · iexact Hb
    isplitl [Hc]; · iapply (launch_credits (F := F) c); iexact Hc
    isplitl [HO]; · iexact HO
    iexists (ρ c); iexact Hp
  isplitl [Hs] <;> iassumption

/-- From what the launch gives all devices: the cells' invariants are set up and every device gets its part. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (show _ ⊢ (bigSep Finset.univ fun c : Dev nD => iprop(rest m c ∗ (semVal (barCell c) 0 ∗ G c)) : sProp 𝕄) from
    bigSep_mono fun c _ => at_launch m ρ c) $$ H
  ihave H := (Entails.of_eq (bigSep_sep' _ _ _)) $$ H; icases H with ⟨Hrest, H⟩
  ihave H := (Entails.of_eq (bigSep_sep' _ _ _)) $$ H; icases H with ⟨Hv, HG⟩
  imod (Rounds.fund_launch ER (rd (part m)) cells_disjoint (fun g _ h => h) duties) $$ [Hv HG] with ⟨%κ, -, #Hinv, #Hr, Hat, Hopen, Htok⟩
  · isplitl [Hv]
    · iapply (Entails.of_eq (over_bar (F := F) fun g => semVal g 0).symm); iexact Hv
    · ihave HG := (Entails.of_eq (G_all (F := F))) $$ HG
      unfold seed; iexact HG
  imodintro
  iapply (bigSep_with_persistent (R := records (part m) κ) (Φ := fun c => iprop(dealt c ∗ rest m c)) fun c _ => T₀_intro κ m c)
  isplitr
  · unfold records
    isplitr; · iexact Hinv
    iexact Hr
  rw [bigSep_sep']
  isplitr [Hrest]
  · iapply (deal_all (F := F))
    isplitl [Hat]; · iexact Hat
    isplitl [Hopen]; · iexact Hopen
    iexact Htok
  iexact Hrest

/-- The memory at the end, read off the last valuation, with the barrier's counter. -/
theorem reads (c : Dev nD) (s' : Phys nD τ sig (Elt F)) : iprop(Tₙ m c ∗ SI s')
    ⊢ (|={Set.univ}=> iprop(⌜(∀ b ∈ Pipeline.ucRefs τ sig, s'.mem.mem ((c : Thread nD τ).1, b) = V8 m (outs m) c b)
        ∧ s'.mem.sem (barCell c) = 0⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (V8 m (outs m) c) s') $$ [Hh HSI]
  · isplitl [Hh] <;> iassumption
  icases Hr with ⟨%h, HSI⟩
  imodintro
  isplitr
  · ipureintro
    exact ⟨h, by simpa using hb⟩
  iexact HSI

/-- What the call leaves is what the program ends with. -/
theorem ends (c : Dev nD) : (reg m).post c ⊢ iprop(Tₙ m c ∗ ∃ W, owes (c : Thread nD τ) (0 : CellTallies nD τ sig Unit) W) := by
  refine (reg_post m c).trans ?_
  show iprop(StableHlo.held (c : Thread nD τ) (Pipeline.ucRefs τ sig) (V8 m (outs m) c)
      ∗ (semVal (barCell c) 0 ∗ ∃ W, owes (c : Thread nD τ) (0 : CellTallies nD τ sig Unit) W))
    ⊢ iprop(Tₙ m c ∗ ∃ W, owes (c : Thread nD τ) (0 : CellTallies nD τ sig Unit) W)
  iintro ⟨Hh, Hb, HO⟩
  isplitr [HO]
  · isplitl [Hh] <;> iassumption
  iexact HO

/-- The starting ghost state is the pipeline's part and the exchange's. -/
theorem u₀_deal : (ownU u₀ : sProp 𝕄) ⊢ |={Set.univ}=> iprop(
    BI.own (EP (initOf (Pipeline.cells cfgs cellOf_inj) (Pipeline.launchToks cfgs cellOf_inj))) ∗ bigSep Finset.univ G) := by
  unfold u₀
  rw [G_all]
  unfold seed
  iintro Hu
  ihave H := (ownU_pair _ _) $$ Hu
  icases H with ⟨HP, HX⟩
  imodintro
  isplitl [HP]; · iexact HP
  iexact HX

/-- A buffer outside the call is one of those that the launch hands over. -/
theorem unscoped_ref (r : Ref sig .tc) (h : ¬ (Proc.devRef (τ := τ) .tc r).isScoped := by decide) :
    Proc.devRef (τ := τ) .tc r ∈ Pipeline.ucRefs τ sig := Finset.mem_filter.mpr ⟨StableHlo.devRef_mem_tcRefs r, h⟩

set_option backward.isDefEq.respectTransparency.types false in
/-- **The run.** From any memory with every counter zero the program ends on every device: its two arguments are as they
    were, its result is the sum of what the device and its partner gathered, and every counter is zero again. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v18) = total (part m) c) ∧ r.2.sem = fun _ => 0) :=
  Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Pipeline.Seg.run_eq_chain,
        show (segs m 𝒱₀ L lv (E m) () (pdats m) (reg m) c).map Pipeline.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne G u₀ u₀_deal (T₀ m) (Tₙ m)
    (fun c => ⟨.rfl, .rfl, .rfl, .rfl, .rfl, .rfl, .rfl, reg_pre m c, ends m c⟩) (init m ρ)
    (fun c s => (∀ b ∈ Pipeline.ucRefs τ sig, s.mem ((c : Thread nD τ).1, b) = V8 m (outs m) c b) ∧ s.sem (barCell c) = 0)
    (reads m)
    fun s h hs => ⟨fun c =>
        ⟨((h c).1 _ (unscoped_ref main_arg0)).trans (V8_main_arg0 m (outs m) c), ((h c).1 _ (unscoped_ref main_arg1)).trans (V8_main_arg1 m (outs m) c),
          ((h c).1 _ (unscoped_ref main_v18)).trans (V8_result m c)⟩,
      sem_eq_zero hs fun c sm hsm => by
        obtain rfl := unscoped_eq sm hsm
        exact (h c).2⟩

end Cert.Exchange

end
-- ==== Proof.Value.lean ====
/- What a device's host operations put into the array it exchanges, read off the program: the rows of its half of the table
   at the indices it owns, and zero elsewhere. -/
module

public import proofs.«01_k».proof.Proof.Gen.KernelIdeal.Regions
public import Idealize.ShloMosaic.Lib.StableHlo.Run
public import Idealize.ShloMosaic.Lib.StableHlo.RunClose

@[expose] public section

noncomputable section

namespace Cert.Exchange

open Idealize.ShloMosaic Idealize.ShloMosaic.TcCoe Idealize.ShloMosaic.StableHlo
open Cert.KernelIdeal Cert.KernelIdeal.Gen

variable {F : FTy → Type} [FloatOps F]

/-- The first row of the table's half that device `c` holds, as a word. -/
def base (c : Dev nD) : IVec S_ 32 :=
  muli (Host.remui (Host.divui (constantI S_ 32 (Dev.word c)) (constantI S_ 32 16#32)) (constantI S_ 32 2#32)) (constantI S_ 32 4096#32)
/-- The indices counted from there. -/
def here (ids : IVec S512 32) (c : Dev nD) : IVec S512 32 := subi ids (broadcastInDim S512 ![] bcast_S_S512 (base c))
/-- Which of them fall into the half. -/
def owned (ids : IVec S512 32) (c : Dev nD) : IVec S512 1 :=
  andi (cmpi .sge (here ids c) (broadcastInDim S512 ![] bcast_S_S512 (constantI S_ 32 0#32)))
    (cmpi .slt (here ids c) (broadcastInDim S512 ![] bcast_S_S512 (constantI S_ 32 4096#32)))
/-- The rows read: those that fall into it, and row 0 for the others. -/
def safe (ids : IVec S512 32) (c : Dev nD) : IVec S512 32 :=
  select (owned ids c) (here ids c) (broadcastInDim S512 ![] bcast_S_S512 (constantI S_ 32 0#32))
/-- An index array as a column, its negative entries moved up by the length of the half. -/
def column (i : IVec S512 32) : IVec S512x1 32 :=
  broadcastInDim S512x1 ![0] bcast_S512_S512x1_0 (select (cmpi .slt i (broadcastInDim S512 ![] bcast_S_S512 (constantI S_ 32 0#32)))
    (addi i (broadcastInDim S512 ![] bcast_S_S512 (constantI S_ 32 4096#32))) i)
/-- Whether each entry of the column names a row. -/
def within (k : IVec S512x1 32) : IVec S512x1 1 :=
  andi (cmpi .sge k (broadcastInDim S512x1 ![] bcast_S_S512x1 (constantI S_ 32 0#32)))
    (cmpi .sle k (broadcastInDim S512x1 ![0, 1] bcast_S1x1_S512x1_0_1 (broadcastInDim S1x1 ![1] bcast_S1_S1x1_1 (constantI S1 32 4095#32))))
/-- The rows of a table at an index array, NaN at an index that names none. -/
def rowsAt (T : FVec F S4096x512 .f32) (i : IVec S512 32) : FVec F S512x512 .f32 :=
  select (broadcastInDim S512x512 ![0] bcast_S512_S512x512_0
      (Host.reduce IntOp.andi (within (column i)) (constantI S_ 1 1#1) reducesTo_S512x1_S512_d1 h_S_))
    (Host.gather gather_S4096x512_S512x1_S512x512_1_0_n_n_0_1_1512 T (column i))
    (broadcastInDim S512x512 ![] bcast_S_S512x512 (constant S_ .f32 0x7FC00000#32))
/-- What device `c` contributes: the rows it owns, and zero. -/
def share (ids : IVec S512 32) (T : FVec F S4096x512 .f32) (c : Dev nD) : FVec F S512x512 .f32 :=
  select (broadcastInDim S512x512 ![0, 1] bcast_S512x1_S512x512_0_1 (broadcastInDim S512x1 ![0] bcast_S512_S512x1_0 (owned ids c)))
    (rowsAt T (safe ids c)) (broadcastInDim S512x512 ![] bcast_S_S512x512 (constant S_ .f32 0x00000000#32))

variable (m : (ℓ : Loc nD τ sig) → Buf (Elt F) ℓ) (c : Dev nD)

/-- The program's values, one host operation after the other: the indices counted from the half's first row, -/
theorem V1_here : V1 m c main_v7 = here (m ((c : Thread nD τ).loc main_arg0)) c := by
  unfold V1 hostOps0; after_results <;> rfl
/-- which of them are owned, -/
theorem V1_owned : V1 m c main_v12 = owned (m ((c : Thread nD τ).loc main_arg0)) c := by
  unfold V1 hostOps0; after_results <;> rfl
/-- the constant 0, -/
theorem V1_zero : V1 m c main_c_4 = constantI S_ 32 0#32 := by
  unfold V1 hostOps0; after_results <;> rfl

/-- the rows to be read, -/
theorem V2_safe : V2 m c main_v13 = safe (m ((c : Thread nD τ).loc main_arg0)) c := by
  have h : ∀ V : Valuation τ sig (Elt F), StableHlo.after hostOps0_1 V main_v13
      = select (V main_v12) (V main_v7) (broadcastInDim S512 ![] bcast_S_S512 (V main_c_4)) := by
    intro V; unfold hostOps0_1; after_results <;> rfl
  unfold V2
  rw [h, V1_owned, V1_here, V1_zero]; rfl

/-- the owned ones as a column, -/
theorem V3_mask : V3 m c main_v14 = broadcastInDim S512x1 ![0] bcast_S512_S512x1_0 (owned (m ((c : Thread nD τ).loc main_arg0)) c) := by
  have h : ∀ V : Valuation τ sig (Elt F), StableHlo.after hostOps0_2 V main_v14 = broadcastInDim S512x1 ![0] bcast_S512_S512x1_0 (V main_v12) := by
    intro V; unfold hostOps0_2; after_results <;> rfl
  unfold V3
  rw [h, V2_of m c main_v12 (by decide), V1_owned]

/-- the rows read, -/
theorem V4_rows : V4 m c main_v15 = rowsAt (m ((c : Thread nD τ).loc main_arg1)) (safe (m ((c : Thread nD τ).loc main_arg0)) c) := by
  have h : ∀ V : Valuation τ sig (Elt F), StableHlo.after hostOps0_3 V main_v15 = rowsAt (V main_arg1) (V main_v13) := by
    intro V; unfold hostOps0_3; after_results <;> rfl
  unfold V4
  rw [h, V3_of m c main_arg1 (by decide), V2_of m c main_arg1 (by decide), V1_of m c main_arg1 (by decide), V3_of m c main_v13 (by decide), V2_safe]

/-- and the share. -/
theorem V6_share : V6 m c main_v16 = share (m ((c : Thread nD τ).loc main_arg0)) (m ((c : Thread nD τ).loc main_arg1)) c := by
  have h : ∀ V : Valuation τ sig (Elt F), StableHlo.after hostOps0_5 V main_v16
      = select (broadcastInDim S512x512 ![0, 1] bcast_S512x1_S512x512_0_1 (V main_v14)) (V main_v15)
          (broadcastInDim S512x512 ![] bcast_S_S512x512 (V main_cst)) := by
    intro V; unfold hostOps0_5; after_results <;> rfl
  have h' : ∀ V : Valuation τ sig (Elt F), StableHlo.after hostOps0_4 V main_cst = constant S_ .f32 0x00000000#32 := by
    intro V; unfold hostOps0_4; after_results <;> rfl
  unfold V6
  rw [h, V5_of m c main_v14 (by decide), V4_of m c main_v14 (by decide), V3_mask, V5_of m c main_v15 (by decide), V4_rows]
  unfold V5
  rw [h']; rfl

/-- What device `c` exchanges: its share, in the narrower format. -/
theorem V7_part : V7 m c main_v17 = truncf .bf16 (share (m ((c : Thread nD τ).loc main_arg0)) (m ((c : Thread nD τ).loc main_arg1)) c) bitsLt_bf16_f32 := by
  have h : ∀ V : Valuation τ sig (Elt F), StableHlo.after hostOps0_6 V main_v17 = truncf .bf16 (V main_v16) bitsLt_bf16_f32 := by
    intro V; unfold hostOps0_6; after_results <;> rfl
  unfold V7
  rw [h, V6_share]

end Cert.Exchange

end
-- ==== Proof.Words.lean ====
/- The index arithmetic on words: which half of the table an index falls into, and the row of the half. -/
module

public import proofs.«01_k».proof.Proof.Value
public import Idealize.ShloMosaic.Lib.Routing.Ops
public import Idealize.ShloMosaic.Lib.ReduceAll
public import Idealize.ShloMosaic.Lib.IdealHost
public import Idealize.ShloMosaic.Lib.Pipeline.Value

@[expose] public section

noncomputable section

namespace Cert.Exchange

open Idealize.ShloMosaic Idealize.ShloMosaic.TcCoe Idealize.ShloMosaic.ValueIdx
open Cert.KernelIdeal Cert.KernelIdeal.Gen

/-- The half of the table that device `c` holds. -/
def half (c : Dev nD) : Nat := c.val / 16
/-- There are two halves. -/
theorem half_lt (c : Dev nD) : half c < 2 := by have := c.isLt; unfold half; change c.val < 32 at this; omega

/-- Small numbers as signed words, and how they compare. -/
theorem toInt_small (n : Nat) (h : n < 2 ^ 31) : (BitVec.ofNat 32 n).toInt = n := by
  rw [BitVec.toInt_ofNat', Int.bmod_def]; omega

theorem slt_small (a b : Nat) (ha : a < 2 ^ 31) (hb : b < 2 ^ 31) :
    IntOp.cmpi .slt (BitVec.ofNat 32 a) (BitVec.ofNat 32 b) = BitVec.ofBool (decide (a < b)) := by
  unfold IntOp.cmpi; simp only [BitVec.slt, toInt_small a ha, toInt_small b hb, Int.ofNat_lt]
theorem sle_small (a b : Nat) (ha : a < 2 ^ 31) (hb : b < 2 ^ 31) :
    IntOp.cmpi .sle (BitVec.ofNat 32 a) (BitVec.ofNat 32 b) = BitVec.ofBool (decide (a ≤ b)) := by
  unfold IntOp.cmpi; simp only [BitVec.sle, toInt_small a ha, toInt_small b hb, Int.ofNat_le]
theorem sge_small (a b : Nat) (ha : a < 2 ^ 31) (hb : b < 2 ^ 31) :
    IntOp.cmpi .sge (BitVec.ofNat 32 a) (BitVec.ofNat 32 b) = BitVec.ofBool (decide (b ≤ a)) := by
  unfold IntOp.cmpi; simp only [BitVec.sle, toInt_small a ha, toInt_small b hb, Int.ofNat_le]

/-- An index minus the first row of a half, read as a signed number. -/
theorem sub_toInt (n h : Nat) (hn : n < 8192) (hh : h < 2) :
    (IntOp.subi (BitVec.ofNat 32 n) (BitVec.ofNat 32 (4096 * h))).toInt = (n : Int) - 4096 * h := by
  unfold IntOp.subi
  rw [BitVec.toInt_sub, toInt_small n (by omega), toInt_small (4096 * h) (by omega), Int.bmod_def]
  push_cast; omega

/-- The test for being owned, on an index of the whole table. -/
theorem sub_owned (n h : Nat) (hn : n < 8192) (hh : h < 2) :
    IntOp.andi (IntOp.cmpi .sge (IntOp.subi (BitVec.ofNat 32 n) (BitVec.ofNat 32 (4096 * h))) 0#32)
      (IntOp.cmpi .slt (IntOp.subi (BitVec.ofNat 32 n) (BitVec.ofNat 32 (4096 * h))) 4096#32) = BitVec.ofBool (decide (n / 4096 = h)) := by
  unfold IntOp.cmpi
  simp only [BitVec.sle, BitVec.slt, sub_toInt n h hn hh, toInt_small 0 (by decide), toInt_small 4096 (by decide)]
  by_cases e : n / 4096 = h
  · rw [decide_eq_true e, decide_eq_true (by omega), decide_eq_true (by omega)]; rfl
  · rw [decide_eq_false e]
    rcases Nat.lt_or_gt_of_ne e with l | l
    · rw [decide_eq_false (show ¬ ((0 : Nat) : Int) ≤ (n : Int) - 4096 * h by omega)]
      exact BitVec.zero_and
    · rw [decide_eq_false (show ¬ (n : Int) - 4096 * h < ((4096 : Nat) : Int) by omega)]
      exact BitVec.and_zero

/-- An owned index, counted from the half's first row. -/
theorem sub_row (n h : Nat) (e : n / 4096 = h) :
    IntOp.subi (BitVec.ofNat 32 n) (BitVec.ofNat 32 (4096 * h)) = BitVec.ofNat 32 (n % 4096) := by
  unfold IntOp.subi
  rw [show n = n % 4096 + 4096 * h by omega, BitVec.ofNat_add, BitVec.add_sub_cancel, Nat.add_mul_mod_self_left, Nat.mod_mod]

/-- The first row of a device's half. -/
theorem base_apply : ∀ c : Dev nD, base c ix0 = BitVec.ofNat 32 (4096 * half c) := by decide

/-! ## The index arrays, entry by entry -/

/-- The indices as numbers: each is a row of the whole table. -/
abbrev Rows (ids : IVec S512 32) (n : Fin 512 → Fin 8192) : Prop := ∀ r, ids (ix1 r) = BitVec.ofNat 32 (n r).val

variable {ids : IVec S512 32} {n : Fin 512 → Fin 8192} (hn : Rows ids n) (c : Dev nD) (r : Fin 512)
include hn

/-- The indices counted from there, entry by entry. -/
theorem here_apply : here ids c (ix1 r) = IntOp.subi (BitVec.ofNat 32 (n r).val) (BitVec.ofNat 32 (4096 * half c)) := by
  show IntOp.subi (ids (ix1 r)) (broadcastInDim S512 ![] bcast_S_S512 (base c) (ix1 r)) = _
  rw [hn r, broadcastInDim_scalar_apply, base_apply]

/-- An index is owned just if its half is the device's. -/
theorem owned_apply : owned ids c (ix1 r) = BitVec.ofBool (decide ((n r).val / 4096 = half c)) := by
  show IntOp.andi (IntOp.cmpi .sge (here ids c (ix1 r)) (broadcastInDim S512 ![] bcast_S_S512 (constantI S_ 32 0#32) (ix1 r)))
    (IntOp.cmpi .slt (here ids c (ix1 r)) (broadcastInDim S512 ![] bcast_S_S512 (constantI S_ 32 4096#32) (ix1 r))) = _
  rw [here_apply hn c r, broadcastInDim_scalar_apply, broadcastInDim_scalar_apply]
  exact sub_owned _ _ (n r).isLt (half_lt c)

/-- The row of the half that is read for entry `r`. -/
def rowOf (n : Fin 512 → Fin 8192) (c : Dev nD) (r : Fin 512) : Fin 4096 :=
  if (n r).val / 4096 = half c then ⟨(n r).val % 4096, Nat.mod_lt _ (by decide)⟩ else 0

/-- The row that is read. -/
theorem safe_apply : safe ids c (ix1 r) = BitVec.ofNat 32 (rowOf n c r).val := by
  show Scalar.select (owned ids c (ix1 r)) (here ids c (ix1 r)) (broadcastInDim S512 ![] bcast_S_S512 (constantI S_ 32 0#32) (ix1 r)) = _
  rw [owned_apply hn c r, here_apply hn c r, broadcastInDim_scalar_apply]
  unfold rowOf
  by_cases e : (n r).val / 4096 = half c
  · rw [decide_eq_true e, if_pos e]; exact sub_row _ _ e
  · rw [decide_eq_false e, if_neg e]; rfl

omit hn

/-! ## Reading a table at an index array -/

/-- The column holds the rows: none is negative. -/
theorem column_apply {i : IVec S512 32} {b : Fin 512 → Fin 4096} (hb : ∀ r, i (ix1 r) = BitVec.ofNat 32 (b r).val) (r : Fin 512) (z : Fin 1) :
    column i (ix2 r z) = BitVec.ofNat 32 (b r).val := by
  unfold column
  rw [broadcastInDim_apply _ _ _ _ (ix1 r) (fun a => by obtain rfl := Subsingleton.elim a 0; rfl)]
  show Scalar.select (IntOp.cmpi .slt (i (ix1 r)) (broadcastInDim S512 ![] bcast_S_S512 (constantI S_ 32 0#32) (ix1 r))) _ (i (ix1 r)) = _
  rw [hb r, broadcastInDim_scalar_apply, show constantI S_ 32 0#32 ix0 = BitVec.ofNat 32 0 from rfl,
    slt_small _ _ (by have := (b r).isLt; omega) (by decide)]
  rfl

/-- Every row that is read lies in the half. -/
theorem within_apply {k : IVec S512x1 32} (hk : ∀ j, ∃ b : Fin 4096, k j = BitVec.ofNat 32 b.val) (j : S512x1.Idx) : within k j = 1#1 := by
  obtain ⟨b, hb⟩ := hk j
  show IntOp.andi (IntOp.cmpi .sge (k j) (broadcastInDim S512x1 ![] bcast_S_S512x1 (constantI S_ 32 0#32) j))
    (IntOp.cmpi .sle (k j) 4095#32) = 1#1
  rw [hb, broadcastInDim_scalar_apply, show constantI S_ 32 0#32 ix0 = BitVec.ofNat 32 0 from rfl, sge_small _ _ (by have := b.isLt; omega) (by decide),
    sle_small _ 4095 (by have := b.isLt; omega) (by decide), decide_eq_true (Nat.zero_le _), decide_eq_true (by have := b.isLt; omega)]
  rfl

/-- At entries that name rows of the half, the rows are read and nothing is NaN. -/
theorem rowsAt_apply {F : FTy → Type} [FloatOps F] (T : FVec F S4096x512 .f32) {i : IVec S512 32} {b : Fin 512 → Fin 4096}
    (hb : ∀ r, i (ix1 r) = BitVec.ofNat 32 (b r).val) (r d : Fin 512) : rowsAt T i (ix2 r d) = T (ix2 (b r) d) := by
  unfold rowsAt
  rw [select_apply, broadcastInDim_apply _ _ _ _ (ix1 r) (fun a => by obtain rfl := Subsingleton.elim a 0; rfl),
    Host.reduce_andi_one _ _ _ _ _ rfl (within_apply fun j => ⟨b (j 0), (congrArg (column i) (eq_ix2 j)).trans (column_apply hb (j 0) (j 1))⟩), select_one]
  exact Routing.gather_row _ rfl rfl rfl rfl rfl T _ r d (b r) (column_apply hb r 0) (by decide)

/-- What device `c` contributes at entry `(r, d)`. -/
theorem share_apply {F : FTy → Type} [FloatOps F] (hn : Rows ids n) (T : FVec F S4096x512 .f32) (c : Dev nD) (r d : Fin 512) :
    share ids T c (ix2 r d) = if (n r).val / 4096 = half c then T (ix2 (rowOf n c r) d) else FloatOps.ofBits .f32 0x00000000#32 := by
  unfold share
  rw [select_apply, broadcastInDim_apply _ _ _ _ (ix2 r 0) (fun a => by match a with | ⟨0, _⟩ => rfl | ⟨1, _⟩ => rfl),
    broadcastInDim_apply _ _ _ _ (ix1 r) (fun a => by obtain rfl := Subsingleton.elim a 0; rfl), owned_apply hn c r,
    rowsAt_apply T (safe_apply hn c) r d, broadcastInDim_scalar_apply]
  by_cases e : (n r).val / 4096 = half c
  · rw [decide_eq_true e, if_pos e]; rfl
  · rw [decide_eq_false e, if_neg e]; rfl

end Cert.Exchange

end
-- ==== Proof.Lookup.lean ====
/- The two shares add up to the lookup: every index falls into exactly one half, so one of a device and its partner
   contributes the row and the other zero. -/
module

public import proofs.«01_k».proof.Proof.Words
public import proofs.«01_k».proof.Proof.Region
public import proofs.«01_k».proof.Proof.Gen.ReferenceIdeal.Run
public import proofs.«01_k».proof.Proof.Gen.Pre_ids_in_table_KernelIdeal

@[expose] public section

noncomputable section

namespace Cert.Exchange

open Idealize.ShloMosaic Idealize.ShloMosaic.TcCoe Idealize.ShloMosaic.ValueIdx
open Cert.KernelIdeal Cert.KernelIdeal.Gen

/-! ## The precondition -/

/-- A word that reads as an integer in `[0, 8192)` is that number's word. -/
theorem small_of_toInt (w : BitVec 32) (h0 : 0 ≤ w.toInt) (h1 : w.toInt < 8192) : ∃ n : Fin 8192, w = BitVec.ofNat 32 n.val := by
  have hw : w.toNat < 8192 := by rw [BitVec.toInt_eq_toNat_cond] at h0 h1; split at h0 <;> omega
  exact ⟨⟨w.toNat, hw⟩, by simp⟩

/-- Under the precondition every index is a row of the whole table. -/
theorem rows_of_pre {F : FTy → Type} [FloatOps F] (ids : IVec S512 32) (T : FVec F S4096x512 .f32)
    (h : Cert.Pre_ids_in_table_KernelIdeal.fn ids T = fun _ => 1#1) : ∃ n, Rows ids n := by
  have key : ∀ r : Fin 512, ∃ n : Fin 8192, ids (ix1 r) = BitVec.ofNat 32 n.val := by
    intro r
    have hr : IntOp.andi (IntOp.cmpi .sge (ids (ix1 r)) 0#32) (IntOp.cmpi .slt (ids (ix1 r)) 8192#32) = 1#1 := congrFun h (ix1 r)
    generalize ids (ix1 r) = w at hr
    unfold IntOp.cmpi IntOp.andi at hr
    simp only [BitVec.sle, BitVec.slt] at hr
    by_cases h0 : (0#32).toInt ≤ w.toInt
    · by_cases h1 : w.toInt < (8192#32).toInt
      · exact small_of_toInt w h0 h1
      · rw [decide_eq_false h1] at hr; simp at hr
    · rw [decide_eq_false h0] at hr; simp at hr
  choose n hn using key
  exact ⟨n, hn⟩

/-! ## The reference -/

/-- The lookup: entry `(r, d)` is entry `d` of row `n r`. -/
def lookup (n : Fin 512 → Fin 8192) (E : FVec Ideal ⟨2, ![8192, 512]⟩ .f32) : FVec Ideal S512x512 .f32 := fun j => E (ix2 (n (j 0)) (j 1))

/-- The reference's column of indices holds the indices: none is negative. -/
theorem refColumn_apply {ids : IVec S512 32} {n : Fin 512 → Fin 8192} (hn : Rows ids n) (r : Fin 512) (z : Fin 1) :
    broadcastInDim Cert.ReferenceIdeal.S512x1 ![0] Cert.ReferenceIdeal.Gen.bcast_S512_S512x1_0
      (select (cmpi .slt ids (broadcastInDim Cert.ReferenceIdeal.S512 ![] Cert.ReferenceIdeal.Gen.bcast_S_S512 (constantI Cert.ReferenceIdeal.S_ 32 0#32)))
        (addi ids (broadcastInDim Cert.ReferenceIdeal.S512 ![] Cert.ReferenceIdeal.Gen.bcast_S_S512 (constantI Cert.ReferenceIdeal.S_ 32 8192#32))) ids) (ix2 r z)
      = BitVec.ofNat 32 (n r).val := by
  rw [broadcastInDim_apply _ _ _ _ (ix1 r) (fun a => by obtain rfl := Subsingleton.elim a 0; rfl)]
  show Scalar.select (IntOp.cmpi .slt (ids (ix1 r)) 0#32) _ (ids (ix1 r)) = _
  rw [hn r, slt_small _ 0 (by have := (n r).isLt; omega) (by decide)]
  rfl

/-- What the reference's gather returns is the lookup. -/
theorem reference_apply {ids : IVec S512 32} {n : Fin 512 → Fin 8192} (hn : Rows ids n) (E : FVec Ideal ⟨2, ![8192, 512]⟩ .f32) :
    Host.gather Cert.ReferenceIdeal.gather_S8192x512_S512x1_S512x512_1_0_n_n_0_1_1512 E
      (broadcastInDim Cert.ReferenceIdeal.S512x1 ![0] Cert.ReferenceIdeal.Gen.bcast_S512_S512x1_0
        (select (cmpi .slt ids (broadcastInDim Cert.ReferenceIdeal.S512 ![] Cert.ReferenceIdeal.Gen.bcast_S_S512 (constantI Cert.ReferenceIdeal.S_ 32 0#32)))
          (addi ids (broadcastInDim Cert.ReferenceIdeal.S512 ![] Cert.ReferenceIdeal.Gen.bcast_S_S512 (constantI Cert.ReferenceIdeal.S_ 32 8192#32))) ids))
      = lookup n E := by
  funext j
  obtain ⟨r, d, rfl⟩ : ∃ r d : Fin 512, j = ix2 r d := ⟨j 0, j 1, eq_ix2 j⟩
  exact Routing.gather_row _ rfl rfl rfl rfl rfl E _ r d (n r) (refColumn_apply hn r 0) (by decide)

/-! ## The kernel -/

/-- The half of the table that a device holds, as it lies in the whole table. -/
abbrev tableHalf (E : FVec Ideal ⟨2, ![8192, 512]⟩ .f32) (c : Dev nD) : FVec Ideal S4096x512 .f32 :=
  Layout.blockN ⟨2, ![4096, 512]⟩ ⟨2, ![8192, 512]⟩ (Layout.meshBlock [2, 4, 4] ![[0], []] c) E

/-- Entry `(b, d)` of a device's half is entry `(4096 * half + b, d)` of the table. -/
theorem block_apply (E : FVec Ideal ⟨2, ![8192, 512]⟩ .f32) (c : Dev nD) (b : Fin 4096) (d : Fin 512) (k : Fin 8192)
    (hk : k.val = 4096 * half c + b.val) :
    tableHalf E c (ix2 b d) = E (ix2 k d) := by
  have h : ∀ c : Dev nD, ((Layout.meshBlock [2, 4, 4] ![[0], []] c) (0 : Fin 2)).val = half c := by decide
  have h' : ∀ c : Dev nD, ((Layout.meshBlock [2, 4, 4] ![[0], []] c) (1 : Fin 2)).val = 0 := by decide
  unfold tableHalf
  rw [Layout.blockN_apply]
  refine congrArg E (funext fun a => Fin.ext ?_)
  rw [Layout.TilesN.idx_val]
  match a with
  | ⟨0, _⟩ => exact (congrArg (fun t => t * 4096 + b.val) (h c)).trans (by rw [hk]; simp [Nat.mul_comm])
  | ⟨1, _⟩ => exact (congrArg (fun t => t * 512 + d.val) (h' c)).trans (by simp)

/-- A device's share, when what it holds is its half of the whole table. -/
theorem share_block {ids : IVec S512 32} {n : Fin 512 → Fin 8192} (hn : Rows ids n) (E : FVec Ideal ⟨2, ![8192, 512]⟩ .f32) (c : Dev nD) (r d : Fin 512) :
    share ids (tableHalf E c) c (ix2 r d)
      = if (n r).val / 4096 = half c then E (ix2 (n r) d) else (0 : EReal) := by
  rw [share_apply hn]
  by_cases e : (n r).val / 4096 = half c
  · rw [if_pos e, if_pos e]
    refine block_apply E c _ d (n r) ?_
    unfold rowOf; rw [if_pos e]; show (n r).val = 4096 * half c + (n r).val % 4096; omega
  · rw [if_neg e, if_neg e]
    simp [FloatOps.ofBits]

/-- Partners hold different halves. -/
theorem half_pr : ∀ c : Dev nD, half (pr c) = 1 - half c := by decide

/-- **The value.** What device `c` ends with is the lookup, whichever device it is. -/
theorem total_eq_lookup (m : (ℓ : Loc nD τ sig) → Buf (Elt Ideal) ℓ) (ids : IVec S512 32) (E : FVec Ideal ⟨2, ![8192, 512]⟩ .f32)
    {n : Fin 512 → Fin 8192} (hn : Rows ids n) (h0 : ∀ c : Dev nD, m ((c : Thread nD τ).loc main_arg0) = ids)
    (h1 : ∀ c : Dev nD, m ((c : Thread nD τ).loc main_arg1) = tableHalf E c) (c : Dev nD) :
    total (part m) c = lookup n E := by
  have hp : ∀ (c : Dev nD) (r d : Fin 512), (part m c : FVec Ideal S512x512 .bf16) (ix2 r d)
      = if (n r).val / 4096 = half c then E (ix2 (n r) d) else (0 : EReal) := by
    intro c r d
    rw [← share_block hn E c r d, ← h1 c, ← h0 c]
    exact congrFun (V7_part m c) (ix2 r d)
  funext j
  obtain ⟨r, d, rfl⟩ : ∃ r d : Fin 512, j = ix2 r d := ⟨j 0, j 1, eq_ix2 j⟩
  show ((part m c : FVec Ideal S512x512 .bf16) (ix2 r d) + (part m (pr c) : FVec Ideal S512x512 .bf16) (ix2 r d) : EReal) = E (ix2 (n r) d)
  rw [hp, hp, half_pr]
  have hc := half_lt c
  have hr := (n r).isLt
  by_cases e : (n r).val / 4096 = half c
  · rw [if_pos e, if_neg (by omega)]; exact add_zero _
  · rw [if_neg e, if_pos (by omega)]; exact zero_add _

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_table_KernelIdeal
public import proofs.«01_k».proof.Proof.Gen.Pre_ids_in_table_ReferenceIdeal
public import proofs.«01_k».proof.Proof.Launch
public import proofs.«01_k».proof.Proof.Lookup
public import Idealize.ShloMosaic.Adequacy
public import Idealize.ShloMosaic.Init

@[expose] public section

noncomputable section

namespace Cert.Proof

open Idealize.ShloMosaic Idealize.ShloMosaic.TcCoe Idealize.SL.Sem Cert.Exchange

/-- The kernel's frame and quiescence, its program given by `M` and its region's body by `D`. -/
def KernelFrame {F : FTy → Type} [FloatOps F] (D : Defs Cert.KernelIdeal.nD Cert.KernelIdeal.τ Cert.KernelIdeal.sig (Elt F)
    (Pipeline.Sig Cert.KernelIdeal.Λ₀ (Fin 1) fun p => (Cert.KernelIdeal.pcfgs (F := F) p).Adm))
    (M : Dev Cert.KernelIdeal.nD → Prog (TpuEff Cert.KernelIdeal.nD Cert.KernelIdeal.τ Cert.KernelIdeal.sig (Elt F)
      (Pipeline.Sig Cert.KernelIdeal.Λ₀ (Fin 1) fun p => (Cert.KernelIdeal.pcfgs (F := F) p).Adm) .tc) PUnit) : Prop :=
  ∀ (m : (ℓ : Loc Cert.KernelIdeal.nD Cert.KernelIdeal.τ Cert.KernelIdeal.sig) → Buf (Elt F) ℓ) (g : Dev Cert.KernelIdeal.nD → PrngReg),
    θ_run D (onTc (τ := Cert.KernelIdeal.τ) M) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- The run of the kernel leaves the arguments and the counters as they were. -/
theorem kernel_frame {F : FTy → Type} [FloatOps F] : KernelFrame (Cert.KernelIdeal.defs (F := F)) Cert.KernelIdeal.main := fun m g =>
  (θ_run Cert.KernelIdeal.defs _ _).mono (fun _ h => ⟨fun c => ⟨(h.1 c).1, (h.1 c).2.1⟩, h.2⟩) (run_main m g)

/-- The kernel as printed and as printed for the ideal reading run the same body. -/
theorem defs₀_eq {F : FTy → Type} [FloatOps F] : Cert.Kernel.defs₀ (F := F) = Cert.KernelIdeal.defs₀ (F := F) := by
  refine congrArg (Defs.onTc (nD := Cert.KernelIdeal.nD) (τ := Cert.KernelIdeal.τ) (sig := Cert.KernelIdeal.sig) (Λ := Cert.KernelIdeal.Λ₀))
    (funext fun l => funext fun x => ?_)
  match l, x with
  | 0, (t, s) => rfl

/-- So do their regions, -/
theorem defs_eq {F : FTy → Type} [FloatOps F] : Cert.Kernel.defs (F := F) = Cert.KernelIdeal.defs (F := F) :=
  congrArg (Pipeline.defs (Cert.KernelIdeal.pcfgs (F := F))) defs₀_eq

/-- and their programs are the same. -/
theorem main_eq {F : FTy → Type} [FloatOps F] : Cert.Kernel.main (F := F) = Cert.KernelIdeal.main (F := F) := rfl

/-- The frame of the kernel as printed. -/
theorem kernel_frame_printed {F : FTy → Type} [FloatOps F] : KernelFrame (F := F) (Cert.Kernel.defs (F := F)) (Cert.Kernel.main (F := F)) :=
  Eq.mpr (congrArg₂ (KernelFrame (F := F)) defs_eq main_eq) kernel_frame

/-- The frames: of the kernel as printed, of its ideal reading, and of the reference. -/
theorem quiescent_kernel : Cert.quiescent_Kernel := fun m g _ => kernel_frame_printed (F := Bits) m g
theorem quiescent_kernelIdeal : Cert.quiescent_KernelIdeal := fun m g _ => kernel_frame m g
theorem quiescent_kernelIdeal_pre : Cert.quiescent_KernelIdeal_pre_ids_in_table_KernelIdeal := fun m g _ => kernel_frame m g

/-- The reference has no semaphores, and leaves its arguments. -/
theorem quiescent_reference : Cert.quiescent_ReferenceIdeal := fun m g _ =>
  (θ_run Cert.ReferenceIdeal.defs _ _).mono (fun r h => ⟨fun c => ⟨(h c).2.1, (h c).2.2⟩, sem_eq_zero_of_no_sems (by decide) r.2⟩)
    (Cert.ReferenceIdeal.Value.run m g)
theorem quiescent_reference_pre : Cert.quiescent_ReferenceIdeal_pre_ids_in_table_ReferenceIdeal := fun m g _ => quiescent_reference m g trivial

/-- **The kernel computes the reference.** -/
theorem algebraic : Cert.algebraic_KernelIdeal_ReferenceIdeal_pre_ids_in_table_KernelIdeal := by
  intro m g m' g' hpre hargs
  obtain ⟨n, hn⟩ := rows_of_pre _ _ (hpre 0)
  rw [(hargs 0).1] at hn
  refine ⟨lookup n (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).2.2.trans ?_, (h.1 c).1, (h.1 c).2.1⟩) (run_main m g)
    exact total_eq_lookup m _ _ hn (fun c => (hargs c).1) (fun c => (hargs c).2) c
  · exact (θ_run Cert.ReferenceIdeal.defs _ _).mono (fun _ h => ⟨(h 0).1.trans (reference_apply hn _), (h 0).2.1, (h 0).2.2⟩)
      (Cert.ReferenceIdeal.Value.run m' g')

/-- All the claims. -/
theorem claim : Cert.Claim := ⟨Cert.Kernel.Gen.facts, Cert.KernelIdeal.Gen.facts, Cert.ReferenceIdeal.Gen.facts, Cert.Pre_ids_in_table_KernelIdeal.Gen.facts, Cert.Pre_ids_in_table_ReferenceIdeal.Gen.facts,
  quiescent_kernel, quiescent_kernelIdeal, quiescent_kernelIdeal_pre, quiescent_reference, quiescent_reference_pre, trivial, algebraic⟩

end Cert.Proof

end
